-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelMoe (m : (ℓ : Loc Cert.KernelMoe.nD Cert.KernelMoe.τ Cert.KernelMoe.sig) → Buf (Elt Bits) ℓ) : Prop :=
  True

def Pre_KernelMoeIdeal (m : (ℓ : Loc Cert.KernelMoeIdeal.nD Cert.KernelMoeIdeal.τ Cert.KernelMoeIdeal.sig) → Buf (Elt Ideal) ℓ) : Prop :=
  True

def Pre_KernelMoeIdeal_finite_logits [hPre_finite_logits : Cert.Pre_finite_logits.Facts] (m : (ℓ : Loc Cert.KernelMoeIdeal.nD Cert.KernelMoeIdeal.τ Cert.KernelMoeIdeal.sig) → Buf (Elt Ideal) ℓ) : Prop :=
  ∀ c : Dev Cert.KernelMoeIdeal.nD,
    (Cert.Pre_finite_logits.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6))) = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_finite_logits [hPre_finite_logits : Cert.Pre_finite_logits.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_finite_logits.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_KernelOutIdeal_finite_router [hPre_finite_router : Cert.Pre_finite_router.Facts] (m : (ℓ : Loc Cert.KernelOutIdeal.nD Cert.KernelOutIdeal.τ Cert.KernelOutIdeal.sig) → Buf (Elt Ideal) ℓ) : Prop :=
  ∀ c : Dev Cert.KernelOutIdeal.nD,
    (Cert.Pre_finite_router.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5))) = (fun _ => 1#1)

def Pre_ReferenceOutIdeal (m : (ℓ : Loc Cert.ReferenceOutIdeal.nD Cert.ReferenceOutIdeal.τ Cert.ReferenceOutIdeal.sig) → Buf (Elt Ideal) ℓ) : Prop :=
  True

def Pre_ReferenceOutIdeal_finite_router [hPre_finite_router : Cert.Pre_finite_router.Facts] (m : (ℓ : Loc Cert.ReferenceOutIdeal.nD Cert.ReferenceOutIdeal.τ Cert.ReferenceOutIdeal.sig) → Buf (Elt Ideal) ℓ) : Prop :=
  ∀ c : Dev Cert.ReferenceOutIdeal.nD,
    (Cert.Pre_finite_router.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelRwkv (m : (ℓ : Loc Cert.KernelRwkv.nD Cert.KernelRwkv.τ Cert.KernelRwkv.sig) → Buf (Elt Bits) ℓ) : Prop :=
  True

def Pre_KernelRwkvIdeal (m : (ℓ : Loc Cert.KernelRwkvIdeal.nD Cert.KernelRwkvIdeal.τ Cert.KernelRwkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelMoe [hKernelMoe : Cert.KernelMoe.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5)
      ∧ r.2.mem ((c.tc : Thread Cert.KernelMoe.nD Cert.KernelMoe.τ).loc Cert.KernelMoe.main_arg6) = m ((c.tc : Thread Cert.KernelMoe.nD Cert.KernelMoe.τ).loc Cert.KernelMoe.main_arg6))
      ∧ r.2.sem = fun _ => 0)

def quiescent_KernelMoeIdeal [hKernelMoeIdeal : Cert.KernelMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ r.2.sem = fun _ => 0)

def quiescent_KernelMoeIdeal_pre_finite_logits [hKernelMoeIdeal : Cert.KernelMoeIdeal.Facts] [hPre_finite_logits : Cert.Pre_finite_logits.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal_finite_logits m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def quiescent_ReferenceMoeIdeal_pre_finite_logits [hReferenceMoeIdeal : Cert.ReferenceMoeIdeal.Facts] [hPre_finite_logits : Cert.Pre_finite_logits.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_finite_logits m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_KernelOutIdeal_pre_finite_router [hKernelOutIdeal : Cert.KernelOutIdeal.Facts] [hPre_finite_router : Cert.Pre_finite_router.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal_finite_router m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_ReferenceOutIdeal_pre_finite_router [hReferenceOutIdeal : Cert.ReferenceOutIdeal.Facts] [hPre_finite_router : Cert.Pre_finite_router.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal_finite_router m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelRwkv [hKernelRwkv : Cert.KernelRwkv.Facts] : Prop :=
  ∀ (m : (ℓ : Loc Cert.KernelRwkv.nD Cert.KernelRwkv.τ Cert.KernelRwkv.sig) → Buf (Elt Bits) ℓ) (g : Dev Cert.KernelRwkv.nD → PrngReg), Pre_KernelRwkv m →
    θ_run (Cert.KernelRwkv.defs (F := Bits)) (onTc (τ := Cert.KernelRwkv.τ) (Cert.KernelRwkv.main (F := Bits))) ⟨m, fun _ => 0, g⟩ (fun r => (∀ c : Dev Cert.KernelRwkv.nD,
      r.2.mem ((c.tc : Thread Cert.KernelRwkv.nD Cert.KernelRwkv.τ).loc Cert.KernelRwkv.main_arg0) = m ((c.tc : Thread Cert.KernelRwkv.nD Cert.KernelRwkv.τ).loc Cert.KernelRwkv.main_arg0)
      ∧ r.2.mem ((c.tc : Thread Cert.KernelRwkv.nD Cert.KernelRwkv.τ).loc Cert.KernelRwkv.main_arg1) = m ((c.tc : Thread Cert.KernelRwkv.nD Cert.KernelRwkv.τ).loc Cert.KernelRwkv.main_arg1)
      ∧ r.2.mem ((c.tc : Thread Cert.KernelRwkv.nD Cert.KernelRwkv.τ).loc Cert.KernelRwkv.main_arg2) = m ((c.tc : Thread Cert.KernelRwkv.nD Cert.KernelRwkv.τ).loc Cert.KernelRwkv.main_arg2)
      ∧ r.2.mem ((c.tc : Thread Cert.KernelRwkv.nD Cert.KernelRwkv.τ).loc Cert.KernelRwkv.main_arg3) = m ((c.tc : Thread Cert.KernelRwkv.nD Cert.KernelRwkv.τ).loc Cert.KernelRwkv.main_arg3)
      ∧ r.2.mem ((c.tc : Thread Cert.KernelRwkv.nD Cert.KernelRwkv.τ).loc Cert.KernelRwkv.main_arg4) = m ((c.tc : Thread Cert.KernelRwkv.nD Cert.KernelRwkv.τ).loc Cert.KernelRwkv.main_arg4)
      ∧ r.2.mem ((c.tc : Thread Cert.KernelRwkv.nD Cert.KernelRwkv.τ).loc Cert.KernelRwkv.main_arg5) = m ((c.tc : Thread Cert.KernelRwkv.nD Cert.KernelRwkv.τ).loc Cert.KernelRwkv.main_arg5)
      ∧ r.2.mem ((c.tc : Thread Cert.KernelRwkv.nD Cert.KernelRwkv.τ).loc Cert.KernelRwkv.main_arg6) = m ((c.tc : Thread Cert.KernelRwkv.nD Cert.KernelRwkv.τ).loc Cert.KernelRwkv.main_arg6)
      ∧ r.2.mem ((c.tc : Thread Cert.KernelRwkv.nD Cert.KernelRwkv.τ).loc Cert.KernelRwkv.main_arg7) = m ((c.tc : Thread Cert.KernelRwkv.nD Cert.KernelRwkv.τ).loc Cert.KernelRwkv.main_arg7)
      ∧ r.2.mem ((c.tc : Thread Cert.KernelRwkv.nD Cert.KernelRwkv.τ).loc Cert.KernelRwkv.main_arg8) = m ((c.tc : Thread Cert.KernelRwkv.nD Cert.KernelRwkv.τ).loc Cert.KernelRwkv.main_arg8)
      ∧ r.2.mem ((c.tc : Thread Cert.KernelRwkv.nD Cert.KernelRwkv.τ).loc Cert.KernelRwkv.main_arg9) = m ((c.tc : Thread Cert.KernelRwkv.nD Cert.KernelRwkv.τ).loc Cert.KernelRwkv.main_arg9)
      ∧ r.2.mem ((c.tc : Thread Cert.KernelRwkv.nD Cert.KernelRwkv.τ).loc Cert.KernelRwkv.main_arg10) = m ((c.tc : Thread Cert.KernelRwkv.nD Cert.KernelRwkv.τ).loc Cert.KernelRwkv.main_arg10)
      ∧ r.2.mem ((c.tc : Thread Cert.KernelRwkv.nD Cert.KernelRwkv.τ).loc Cert.KernelRwkv.main_arg11) = m ((c.tc : Thread Cert.KernelRwkv.nD Cert.KernelRwkv.τ).loc Cert.KernelRwkv.main_arg11))
      ∧ r.2.sem = fun _ => 0)

def quiescent_KernelRwkvIdeal [hKernelRwkvIdeal : Cert.KernelRwkvIdeal.Facts] : Prop :=
  ∀ (m : (ℓ : Loc Cert.KernelRwkvIdeal.nD Cert.KernelRwkvIdeal.τ Cert.KernelRwkvIdeal.sig) → Buf (Elt Ideal) ℓ) (g : Dev Cert.KernelRwkvIdeal.nD → PrngReg), Pre_KernelRwkvIdeal m →
    θ_run (Cert.KernelRwkvIdeal.defs (F := Ideal)) (onTc (τ := Cert.KernelRwkvIdeal.τ) (Cert.KernelRwkvIdeal.main (F := Ideal))) ⟨m, fun _ => 0, g⟩ (fun r => (∀ c : Dev Cert.KernelRwkvIdeal.nD,
      r.2.mem ((c.tc : Thread Cert.KernelRwkvIdeal.nD Cert.KernelRwkvIdeal.τ).loc Cert.KernelRwkvIdeal.main_arg0) = m ((c.tc : Thread Cert.KernelRwkvIdeal.nD Cert.KernelRwkvIdeal.τ).loc Cert.KernelRwkvIdeal.main_arg0)
      ∧ r.2.mem ((c.tc : Thread Cert.KernelRwkvIdeal.nD Cert.KernelRwkvIdeal.τ).loc Cert.KernelRwkvIdeal.main_arg1) = m ((c.tc : Thread Cert.KernelRwkvIdeal.nD Cert.KernelRwkvIdeal.τ).loc Cert.KernelRwkvIdeal.main_arg1)
      ∧ r.2.mem ((c.tc : Thread Cert.KernelRwkvIdeal.nD Cert.KernelRwkvIdeal.τ).loc Cert.KernelRwkvIdeal.main_arg2) = m ((c.tc : Thread Cert.KernelRwkvIdeal.nD Cert.KernelRwkvIdeal.τ).loc Cert.KernelRwkvIdeal.main_arg2)
      ∧ r.2.mem ((c.tc : Thread Cert.KernelRwkvIdeal.nD Cert.KernelRwkvIdeal.τ).loc Cert.KernelRwkvIdeal.main_arg3) = m ((c.tc : Thread Cert.KernelRwkvIdeal.nD Cert.KernelRwkvIdeal.τ).loc Cert.KernelRwkvIdeal.main_arg3)
      ∧ r.2.mem ((c.tc : Thread Cert.KernelRwkvIdeal.nD Cert.KernelRwkvIdeal.τ).loc Cert.KernelRwkvIdeal.main_arg4) = m ((c.tc : Thread Cert.KernelRwkvIdeal.nD Cert.KernelRwkvIdeal.τ).loc Cert.KernelRwkvIdeal.main_arg4)
      ∧ r.2.mem ((c.tc : Thread Cert.KernelRwkvIdeal.nD Cert.KernelRwkvIdeal.τ).loc Cert.KernelRwkvIdeal.main_arg5) = m ((c.tc : Thread Cert.KernelRwkvIdeal.nD Cert.KernelRwkvIdeal.τ).loc Cert.KernelRwkvIdeal.main_arg5)
      ∧ r.2.mem ((c.tc : Thread Cert.KernelRwkvIdeal.nD Cert.KernelRwkvIdeal.τ).loc Cert.KernelRwkvIdeal.main_arg6) = m ((c.tc : Thread Cert.KernelRwkvIdeal.nD Cert.KernelRwkvIdeal.τ).loc Cert.KernelRwkvIdeal.main_arg6)
      ∧ r.2.mem ((c.tc : Thread Cert.KernelRwkvIdeal.nD Cert.KernelRwkvIdeal.τ).loc Cert.KernelRwkvIdeal.main_arg7) = m ((c.tc : Thread Cert.KernelRwkvIdeal.nD Cert.KernelRwkvIdeal.τ).loc Cert.KernelRwkvIdeal.main_arg7)
      ∧ r.2.mem ((c.tc : Thread Cert.KernelRwkvIdeal.nD Cert.KernelRwkvIdeal.τ).loc Cert.KernelRwkvIdeal.main_arg8) = m ((c.tc : Thread Cert.KernelRwkvIdeal.nD Cert.KernelRwkvIdeal.τ).loc Cert.KernelRwkvIdeal.main_arg8)
      ∧ r.2.mem ((c.tc : Thread Cert.KernelRwkvIdeal.nD Cert.KernelRwkvIdeal.τ).loc Cert.KernelRwkvIdeal.main_arg9) = m ((c.tc : Thread Cert.KernelRwkvIdeal.nD Cert.KernelRwkvIdeal.τ).loc Cert.KernelRwkvIdeal.main_arg9)
      ∧ r.2.mem ((c.tc : Thread Cert.KernelRwkvIdeal.nD Cert.KernelRwkvIdeal.τ).loc Cert.KernelRwkvIdeal.main_arg10) = m ((c.tc : Thread Cert.KernelRwkvIdeal.nD Cert.KernelRwkvIdeal.τ).loc Cert.KernelRwkvIdeal.main_arg10)
      ∧ r.2.mem ((c.tc : Thread Cert.KernelRwkvIdeal.nD Cert.KernelRwkvIdeal.τ).loc Cert.KernelRwkvIdeal.main_arg11) = m ((c.tc : Thread Cert.KernelRwkvIdeal.nD Cert.KernelRwkvIdeal.τ).loc Cert.KernelRwkvIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelMoe_KernelMoeIdeal : Prop :=
  True

def algebraic_KernelMoeIdeal_ReferenceMoeIdeal_pre_finite_logits [hKernelMoeIdeal : Cert.KernelMoeIdeal.Facts] [hReferenceMoeIdeal : Cert.ReferenceMoeIdeal.Facts] [hPre_finite_logits : Cert.Pre_finite_logits.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal_finite_logits m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)
      ∧ m' ((c.tc : Thread Cert.ReferenceMoeIdeal.nD Cert.ReferenceMoeIdeal.τ).loc Cert.ReferenceMoeIdeal.main_arg6) = m ((c.tc : Thread Cert.KernelMoeIdeal.nD Cert.KernelMoeIdeal.τ).loc Cert.KernelMoeIdeal.main_arg6)) →
    ∃ (v0 : (c : Dev Cert.KernelMoeIdeal.nD) → Buf (Elt Ideal) ((c.tc : Thread Cert.KernelMoeIdeal.nD Cert.KernelMoeIdeal.τ).loc Cert.KernelMoeIdeal.main_v1)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v1) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
          ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v155) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v0)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v9) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v10_0)) (v1 : (c : Dev Cert.KernelInIdeal.nD) → Buf (Elt Ideal) ((c.tc : Thread Cert.KernelInIdeal.nD Cert.KernelInIdeal.τ).loc Cert.KernelInIdeal.main_v10_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v10_0) = v0 c
          ∧ r.2.mem ((c.tc : Thread Cert.KernelInIdeal.nD Cert.KernelInIdeal.τ).loc Cert.KernelInIdeal.main_v10_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v19) = v0 c
          ∧ r.2.mem ((c.tc : Thread Cert.ReferenceInIdeal.nD Cert.ReferenceInIdeal.τ).loc Cert.ReferenceInIdeal.main_v22) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal_pre_finite_router [hKernelOutIdeal : Cert.KernelOutIdeal.Facts] [hReferenceOutIdeal : Cert.ReferenceOutIdeal.Facts] [hPre_finite_router : Cert.Pre_finite_router.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal_finite_router m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v8_0)) (v1 : (c : Dev Cert.KernelOutIdeal.nD) → Buf (Elt Ideal) ((c.tc : Thread Cert.KernelOutIdeal.nD Cert.KernelOutIdeal.τ).loc Cert.KernelOutIdeal.main_v8_1)) (v2 : (c : Dev Cert.KernelOutIdeal.nD) → Buf (Elt Ideal) ((c.tc : Thread Cert.KernelOutIdeal.nD Cert.KernelOutIdeal.τ).loc Cert.KernelOutIdeal.main_v8_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v8_0) = v0 c
          ∧ r.2.mem ((c.tc : Thread Cert.KernelOutIdeal.nD Cert.KernelOutIdeal.τ).loc Cert.KernelOutIdeal.main_v8_1) = v1 c
          ∧ r.2.mem ((c.tc : Thread Cert.KernelOutIdeal.nD Cert.KernelOutIdeal.τ).loc Cert.KernelOutIdeal.main_v8_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_v22) = v1 c
          ∧ r.2.mem ((c.tc : Thread Cert.ReferenceOutIdeal.nD Cert.ReferenceOutIdeal.τ).loc Cert.ReferenceOutIdeal.main_v25) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v6_0)) (v1 : (c : Dev Cert.KernelMixIdeal.nD) → Buf (Elt Ideal) ((c.tc : Thread Cert.KernelMixIdeal.nD Cert.KernelMixIdeal.τ).loc Cert.KernelMixIdeal.main_v6_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v6_0) = v0 c
          ∧ r.2.mem ((c.tc : Thread Cert.KernelMixIdeal.nD Cert.KernelMixIdeal.τ).loc Cert.KernelMixIdeal.main_v6_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v6) = v0 c
          ∧ r.2.mem ((c.tc : Thread Cert.ReferenceMixIdeal.nD Cert.ReferenceMixIdeal.τ).loc Cert.ReferenceMixIdeal.main_v22) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelRwkv_KernelRwkvIdeal : Prop :=
  True

def Claim : Prop :=
  ∃ (hKernel : Cert.Kernel.Facts) (hKernelIdeal : Cert.KernelIdeal.Facts) (hReferenceIdeal : Cert.ReferenceIdeal.Facts) (hKernelMoe : Cert.KernelMoe.Facts) (hKernelMoeIdeal : Cert.KernelMoeIdeal.Facts) (hReferenceMoeIdeal : Cert.ReferenceMoeIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMix : Cert.KernelMix.Facts) (hKernelMixIdeal : Cert.KernelMixIdeal.Facts) (hReferenceMixIdeal : Cert.ReferenceMixIdeal.Facts) (hKernelRwkv : Cert.KernelRwkv.Facts) (hKernelRwkvIdeal : Cert.KernelRwkvIdeal.Facts) (hPre_finite_scores : Cert.Pre_finite_scores.Facts) (hPre_finite_logits : Cert.Pre_finite_logits.Facts) (hPre_finite_router : Cert.Pre_finite_router.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelMoe (hKernelMoe := hKernelMoe)
    ∧ quiescent_KernelMoeIdeal (hKernelMoeIdeal := hKernelMoeIdeal)
    ∧ quiescent_KernelMoeIdeal_pre_finite_logits (hKernelMoeIdeal := hKernelMoeIdeal) (hPre_finite_logits := hPre_finite_logits)
    ∧ quiescent_ReferenceMoeIdeal (hReferenceMoeIdeal := hReferenceMoeIdeal)
    ∧ quiescent_ReferenceMoeIdeal_pre_finite_logits (hReferenceMoeIdeal := hReferenceMoeIdeal) (hPre_finite_logits := hPre_finite_logits)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_KernelOutIdeal_pre_finite_router (hKernelOutIdeal := hKernelOutIdeal) (hPre_finite_router := hPre_finite_router)
    ∧ quiescent_ReferenceOutIdeal (hReferenceOutIdeal := hReferenceOutIdeal)
    ∧ quiescent_ReferenceOutIdeal_pre_finite_router (hReferenceOutIdeal := hReferenceOutIdeal) (hPre_finite_router := hPre_finite_router)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelRwkv (hKernelRwkv := hKernelRwkv)
    ∧ quiescent_KernelRwkvIdeal (hKernelRwkvIdeal := hKernelRwkvIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelMoe_KernelMoeIdeal
    ∧ algebraic_KernelMoeIdeal_ReferenceMoeIdeal_pre_finite_logits (hKernelMoeIdeal := hKernelMoeIdeal) (hReferenceMoeIdeal := hReferenceMoeIdeal) (hPre_finite_logits := hPre_finite_logits)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal_pre_finite_router (hKernelOutIdeal := hKernelOutIdeal) (hReferenceOutIdeal := hReferenceOutIdeal) (hPre_finite_router := hPre_finite_router)
    ∧ preserves_KernelMix_KernelMixIdeal
    ∧ algebraic_KernelMixIdeal_ReferenceMixIdeal (hKernelMixIdeal := hKernelMixIdeal) (hReferenceMixIdeal := hReferenceMixIdeal)
    ∧ preserves_KernelRwkv_KernelRwkvIdeal
-- ==== Pre_finite_logits.lean ====
abbrev S16384x1024 : Shape := ⟨2, ![16384, 1024]⟩
abbrev S16384x128 : Shape := ⟨2, ![16384, 128]⟩
abbrev S8x1024x1408 : Shape := ⟨3, ![8, 1024, 1408]⟩
abbrev S8x1408x1024 : Shape := ⟨3, ![8, 1408, 1024]⟩
abbrev S1024 : Shape := ⟨1, ![1024]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_
  h_S_ : 0 < S_.numel

variable [Facts]

def fn {F : FTy → Type} [FloatOps F] (main_arg0 : FVec F S16384x1024 .bf16) (main_arg1 : FVec F S16384x1024 .f32) (main_arg2 : FVec F S16384x128 .f32) (main_arg3 : FVec F S8x1024x1408 .bf16) (main_arg4 : FVec F S8x1024x1408 .bf16) (main_arg5 : FVec F S8x1408x1024 .bf16) (main_arg6 : FVec F S1024 .f32) : IVec S_ 1 :=
  let main_v0 : FVec F S16384x8 .f32 := (extractStridedSlice S16384x8 ![0, 0] · slices_S16384x128_S16384x8_0_0) main_arg2
  let main_v1 : FVec F S16384x8 .f32 := Host.absf main_v0
  let main_cst : FVec F S_ .f32 := constant S_ .f32 0x7F800000#32
  let main_v2 : FVec F S16384x8 .f32 := broadcastInDim S16384x8 ![] bcast_S_S16384x8 main_cst
  let main_v3 : IVec S16384x8 1 := cmpf .olt main_v1 main_v2
  let main_c : IVec S_ 1 := constantI S_ 1 1#1
  let main_v4 : IVec S_ 1 := (fun x v => Host.reduce IntOp.andi x v reducesTo_S16384x8_S_d0_1 h_S_) main_v3 main_c
  main_v4
-- ==== Pre_finite_router.lean ====
abbrev S16384x512 : Shape := ⟨2, ![16384, 512]⟩
abbrev S16384x1024 : Shape := ⟨2, ![16384, 1024]⟩
abbrev S2x1024x1024 : Shape := ⟨3, ![2, 1024, 1024]⟩
abbrev S2x1024 : Shape := ⟨2, ![2, 1024]⟩
abbrev S1x1024x8 : Shape := ⟨3, ![1, 1024, 8]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  slices_S2x1024x1024_S1x1024x1024_1_0_0 : S2x1024x1024.Slices ![1, 0, 0] S1x1024x1024
  shapeCasts_S1x1024x1024_S1024x1024 : S1x1024x1024.ShapeCasts S1024x1024
  bcast_S_S1024x1024 : S_.BroadcastsInDim S1024x1024 (![] : Fin 0 → Fin S1024x1024.rank)
  reducesTo_S1024x1024_S_d0_1 : S1024x1024.ReducesTo [0, 1] S_
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  bcast_S_S1x1024x8 : S_.BroadcastsInDim S1x1024x8 (![] : Fin 0 → Fin S1x1024x8.rank)
  reducesTo_S1x1024x8_S_d0_1_2 : S1x1024x8.ReducesTo [0, 1, 2] S_

variable [Facts]

def fn_part1 {F : FTy → Type} [FloatOps F] (main_arg4 : FVec F S2x1024 .f32) (main_arg5 : FVec F S1x1024x8 .f32) (main_v10 : IVec S_ 1) (main_v14 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_c_5 : IVec S_ 1 := constantI S_ 1 1#1
  let main_v20 : IVec S_ 1 := (fun x v => Host.reduce IntOp.andi x v reducesTo_S1024x1024_S_d0_1 h_S_) main_v19 main_c_5
  let main_v21 : IVec S_ 1 := andi main_v14 main_v20
  let main_v22 : FVec F S1x1024 .f32 := (extractStridedSlice S1x1024 ![1, 0] · slices_S2x1024_S1x1024_1_0) main_arg4
  let main_v23 : FVec F S1024 .f32 := shapeCast S1024 main_v22 shapeCasts_S1x1024_S1024
  let main_v24 : FVec F S1024 .f32 := Host.absf main_v23
  let main_cst_6 : FVec F S_ .f32 := constant S_ .f32 0x7F800000#32
  let main_v25 : FVec F S1024 .f32 := broadcastInDim S1024 ![] bcast_S_S1024 main_cst_6
  let main_v26 : IVec S1024 1 := cmpf .olt main_v24 main_v25
  let main_c_7 : IVec S_ 1 := constantI S_ 1 1#1
  let main_v27 : IVec S_ 1 := (fun x v => Host.reduce IntOp.andi x v reducesTo_S1024_S_d0 h_S_) main_v26 main_c_7
  let main_v28 : IVec S_ 1 := andi main_v21 main_v27
  let main_v29 : IVec S_ 1 := andi main_v10 main_v28
  let main_v30 : FVec F S1x1024x8 .f32 := Host.absf main_arg5
  let main_cst_8 : FVec F S_ .f32 := constant S_ .f32 0x7F800000#32
  let main_v31 : FVec F S1x1024x8 .f32 := broadcastInDim S1x1024x8 ![] bcast_S_S1x1024x8 main_cst_8
  let main_v32 : IVec S1x1024x8 1 := cmpf .olt main_v30 main_v31
  let main_c_9 : IVec S_ 1 := constantI S_ 1 1#1
  let main_v33 : IVec S_ 1 := (fun x v => Host.reduce IntOp.andi x v reducesTo_S1x1024x8_S_d0_1_2 h_S_) main_v32 main_c_9
  let main_v34 : IVec S_ 1 := andi main_v29 main_v33
  main_v34

def fn {F : FTy → Type} [FloatOps F] (main_arg0 : FVec F S16384x512 .bf16) (main_arg1 : FVec F S16384x512 .bf16) (main_arg2 : FVec F S16384x1024 .f32) (main_arg3 : FVec F S2x1024x1024 .f32) (main_arg4 : FVec F S2x1024 .f32) (main_arg5 : FVec F S1x1024x8 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x1024 .f32 := Host.absf main_arg2
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : FVec F S1x1024x1024 .f32 := (extractStridedSlice S1x1024x1024 ![1, 0, 0] · slices_S2x1024x1024_S1x1024x1024_1_0_0) main_arg3
  let main_v16 : FVec F S1024x1024 .f32 := shapeCast S1024x1024 main_v15 shapeCasts_S1x1024x1024_S1024x1024
  let main_v17 : FVec F S1024x1024 .f32 := Host.absf main_v16
  fn_part1 (F := F) main_arg4 main_arg5 main_v10 main_v14 main_v17
-- ==== Pre_finite_scores.lean ====
abbrev S8x2048x1536 : Shape := ⟨3, ![8, 2048, 1536]⟩
abbrev S2x257x8 : Shape := ⟨3, ![2, 257, 8]⟩
abbrev S512 : Shape := ⟨1, ![512]⟩
abbrev S8x2048x1024 : Shape := ⟨3, ![8, 2048, 1024]⟩
abbrev S_ : Shape := ⟨0, ![]⟩
abbrev S1x257x8 : Shape := ⟨3, ![1, 257, 8]⟩
abbrev S257x8 : Shape := ⟨2, ![257, 8]⟩

class Facts : Prop where
  slices_S8x2048x1536_S8x2048x1024_0_0_0 : S8x2048x1536.Slices ![0, 0, 0] S8x2048x1024
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  slices_S2x257x8_S1x257x8_0_0_0 : S2x257x8.Slices ![0, 0, 0] S1x257x8
  shapeCasts_S1x257x8_S257x8 : S1x257x8.ShapeCasts S257x8
  bcast_S_S257x8 : S_.BroadcastsInDim S257x8 (![] : Fin 0 → Fin S257x8.rank)
  reducesTo_S257x8_S_d0_1 : S257x8.ReducesTo [0, 1] S_

variable [Facts]

def fn {F : FTy → Type} [FloatOps F] (main_arg0 : FVec F S8x2048x1536 .bf16) (main_arg1 : FVec F S2x257x8 .f32) (main_arg2 : FVec F S512 .f32) : IVec S_ 1 :=
  let main_v0 : FVec F S8x2048x1024 .bf16 := (extractStridedSlice S8x2048x1024 ![0, 0, 0] · slices_S8x2048x1536_S8x2048x1024_0_0_0) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_c : IVec S_ 1 := constantI S_ 1 1#1
  let main_v5 : IVec S_ 1 := (fun x v => Host.reduce IntOp.andi x v reducesTo_S8x2048x1024_S_d0_1_2 h_S_) main_v4 main_c
  let main_v6 : FVec F S1x257x8 .f32 := (extractStridedSlice S1x257x8 ![0, 0, 0] · slices_S2x257x8_S1x257x8_0_0_0) main_arg1
  let main_v7 : FVec F S257x8 .f32 := shapeCast S257x8 main_v6 shapeCasts_S1x257x8_S257x8
  let main_v8 : FVec F S257x8 .f32 := Host.absf main_v7
  let main_cst_0 : FVec F S_ .f32 := constant S_ .f32 0x7F800000#32
  let main_v9 : FVec F S257x8 .f32 := broadcastInDim S257x8 ![] bcast_S_S257x8 main_cst_0
  let main_v10 : IVec S257x8 1 := cmpf .olt main_v8 main_v9
  let main_c_1 : IVec S_ 1 := constantI S_ 1 1#1
  let main_v11 : IVec S_ 1 := (fun x v => Host.reduce IntOp.andi x v reducesTo_S257x8_S_d0_1 h_S_) main_v10 main_c_1
  let main_v12 : IVec S_ 1 := andi main_v5 main_v11
  main_v12
-- ==== Kernel.lean ====
abbrev S8x2048x1536 : Shape := ⟨3, ![8, 2048, 1536]⟩
abbrev S2x257x8 : Shape := ⟨3, ![2, 257, 8]⟩
abbrev S512 : Shape := ⟨1, ![512]⟩
abbrev S2x8x257 : Shape := ⟨3, ![2, 8, 257]⟩
abbrev S_ : Shape := ⟨0, ![]⟩
abbrev S2x8x384 : Shape := ⟨3, ![2, 8, 384]⟩
abbrev S2x10x512x640 : Shape := ⟨4, ![2, 10, 512, 640]⟩
abbrev S1x8x384 : Shape := ⟨3, ![1, 8, 384]⟩
abbrev S1x1x512x640 : Shape := ⟨4, ![1, 1, 512, 640]⟩
abbrev S384x768 : Shape := ⟨2, ![384, 768]⟩
abbrev S8x384 : Shape := ⟨2, ![8, 384]⟩
abbrev S8x768 : Shape := ⟨2, ![8, 768]⟩
abbrev S64x640 : Shape := ⟨2, ![64, 640]⟩
abbrev S1x768 : Shape := ⟨2, ![1, 768]⟩
abbrev S64x768 : Shape := ⟨2, ![64, 768]⟩
abbrev S64x704 : Shape := ⟨2, ![64, 704]⟩
abbrev S64x256 : Shape := ⟨2, ![64, 256]⟩
abbrev S64x64 : Shape := ⟨2, ![64, 64]⟩
abbrev S64x1024 : Shape := ⟨2, ![64, 1024]⟩
abbrev S1x1x64x640 : Shape := ⟨4, ![1, 1, 64, 640]⟩
abbrev S1x512 : Shape := ⟨2, ![1, 512]⟩
abbrev S8x2048x512 : Shape := ⟨3, ![8, 2048, 512]⟩
abbrev S1x64x512 : Shape := ⟨3, ![1, 64, 512]⟩
abbrev S1x2048x512 : Shape := ⟨3, ![1, 2048, 512]⟩
abbrev S64x512 : Shape := ⟨2, ![64, 512]⟩
abbrev S1x640x512 : Shape := ⟨3, ![1, 640, 512]⟩
abbrev S640x512 : Shape := ⟨2, ![640, 512]⟩
abbrev S64x128 : Shape := ⟨2, ![64, 128]⟩
abbrev S128x128 : Shape := ⟨2, ![128, 128]⟩
abbrev S640x128 : Shape := ⟨2, ![640, 128]⟩
abbrev S128x640 : Shape := ⟨2, ![128, 640]⟩
abbrev S1x1x128x640 : Shape := ⟨4, ![1, 1, 128, 640]⟩
abbrev S128 : Shape := ⟨1, ![128]⟩
abbrev S128x1 : Shape := ⟨2, ![128, 1]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S8x2048x1536, .bf16⟩
  | .hbm, ⟨1, _⟩ => ⟨S2x257x8, .f32⟩
  | .hbm, ⟨2, _⟩ => ⟨S512, .f32⟩
  | .hbm, ⟨3, _⟩ => ⟨S2x8x257, .f32⟩
  | .hbm, ⟨4, _⟩ => ⟨S_, .i32⟩
  | .hbm, ⟨5, _⟩ => ⟨S_, .f32⟩
  | .hbm, ⟨6, _⟩ => ⟨S2x8x384, .f32⟩
  | .hbm, ⟨7, _⟩ => ⟨S2x10x512x640, .f32⟩
  | .hbm, ⟨8, _⟩ => ⟨S1x512, .f32⟩
  | .hbm, ⟨9, _⟩ => ⟨S8x2048x512, .bf16⟩
  | .local _ .vmem, ⟨0, _⟩ => ⟨S1x8x384, .f32⟩
  | .local _ .vmem, ⟨1, _⟩ => ⟨S1x8x384, .f32⟩
  | .local _ .vmem, ⟨2, _⟩ => ⟨S1x1x512x640, .f32⟩
  | .local _ .vmem, ⟨3, _⟩ => ⟨S1x1x512x640, .f32⟩
  | .local _ .vmem, ⟨4, _⟩ => ⟨S1x64x512, .bf16⟩
  | .local _ .vmem, ⟨5, _⟩ => ⟨S1x64x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1x512x640, .f32⟩
  | .local _ .vmem, ⟨11, _⟩ => ⟨S1x1x512x640, .f32⟩
  | .local _ .vmem, ⟨12, _⟩ => ⟨S1x512, .f32⟩
  | .local _ .vmem, ⟨13, _⟩ => ⟨S1x64x512, .bf16⟩
  | .local _ .vmem, ⟨14, _⟩ => ⟨S1x64x512, .bf16⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 32], ![false, false]⟩

def k1_mult1 (i : grid1.Coords) : BitVec 32 :=
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c64_i32 : BitVec 32 := 64#32
  let v2 : BitVec 32 := Scalar.muli v1 c64_i32
  v2
def k1_off1 (i : grid1.Coords) : Fin 3 → Nat :=
  let c0_2 : Index := 0#32
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c64_i32 : BitVec 32 := 64#32
  let v2 : BitVec 32 := Scalar.muli v1 c64_i32
  let v3 : BitVec 32 := v2
  let v8 : Index := Scalar.indexCast v3
  let c0_3 : Index := 0#32
  ![0, v8.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x512x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1536 : Shape := ⟨3, ![8, 2048, 1536]⟩
abbrev S2x257x8 : Shape := ⟨3, ![2, 257, 8]⟩
abbrev S512 : Shape := ⟨1, ![512]⟩
abbrev S8x2048x512 : Shape := ⟨3, ![8, 2048, 512]⟩
abbrev S1x257x8 : Shape := ⟨3, ![1, 257, 8]⟩
abbrev S257x8 : Shape := ⟨2, ![257, 8]⟩
abbrev S8x32x64x8x64 : Shape := ⟨5, ![8, 32, 64, 8, 64]⟩
abbrev S_ : Shape := ⟨0, ![]⟩
abbrev S8x40x64x8x64 : Shape := ⟨5, ![8, 40, 64, 8, 64]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S8x32x9x64x8x64 : Shape := ⟨6, ![8, 32, 9, 64, 8, 64]⟩
abbrev S8x32x576x8x64 : Shape := ⟨5, ![8, 32, 576, 8, 64]⟩
abbrev S8x32x8x64x576 : Shape := ⟨5, ![8, 32, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S32x9x64 : Shape := ⟨3, ![32, 9, 64]⟩
abbrev S32x576 : Shape := ⟨2, ![32, 576]⟩
abbrev S1x32x1x1x576 : Shape := ⟨5, ![1, 32, 1, 1, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 128
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S2x257x8, .f32⟩
  | .hbm, ⟨2, _⟩ => ⟨S512, .f32⟩
  | .hbm, ⟨3, _⟩ => ⟨S8x2048x1536, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S1x257x8, .f32⟩
  | .hbm, ⟨8, _⟩ => ⟨S257x8, .f32⟩
  | .hbm, ⟨9, _⟩ => ⟨S8x32x64x8x64, .f32⟩
  | .hbm, ⟨10, _⟩ => ⟨S8x32x64x8x64, .f32⟩
  | .hbm, ⟨11, _⟩ => ⟨S8x32x64x8x64, .f32⟩
  | .hbm, ⟨12, _⟩ => ⟨S_, .i32⟩
  | .hbm, ⟨13, _⟩ => ⟨S_, .f32⟩
  | .hbm, ⟨14, _⟩ => ⟨S8x40x64x8x64, .f32⟩
  | .hbm, ⟨15, _⟩ => ⟨S_, .i32⟩
  | .hbm, ⟨16, _⟩ => ⟨S_, .f32⟩
  | .hbm, ⟨17, _⟩ => ⟨S8x40x64x8x64, .f32⟩
  | .hbm, ⟨18, _⟩ => ⟨S32, .i32⟩
  | .hbm, ⟨19, _⟩ => ⟨S32x1, .i32⟩
  | .hbm, ⟨20, _⟩ => ⟨S9, .i32⟩
  | .hbm, ⟨21, _⟩ => ⟨S1x9, .i32⟩
  | .hbm, ⟨22, _⟩ => ⟨S32x9, .i32⟩
  | .hbm, ⟨23, _⟩ => ⟨S32x9, .i32⟩
  | .hbm, ⟨24, _⟩ => ⟨S32x9, .i32⟩
  | .hbm, ⟨25, _⟩ => ⟨S_, .i32⟩
  | .hbm, ⟨26, _⟩ => ⟨S32x9, .i32⟩
  | .hbm, ⟨27, _⟩ => ⟨S32x9, .i1⟩
  | .hbm, ⟨28, _⟩ => ⟨S_, .i32⟩
  | .hbm, ⟨29, _⟩ => ⟨S32x9, .i32⟩
  | .hbm, ⟨30, _⟩ => ⟨S32x9, .i32⟩
  | .hbm, ⟨31, _⟩ => ⟨S32x9, .i32⟩
  | .hbm, ⟨32, _⟩ => ⟨S32x9x1, .i32⟩
  | .hbm, ⟨33, _⟩ => ⟨S8x32x9x64x8x64, .f32⟩
  | .hbm, ⟨34, _⟩ => ⟨S8x32x576x8x64, .f32⟩
  | .hbm, ⟨35, _⟩ => ⟨S_, .i32⟩
  | .hbm, ⟨36, _⟩ => ⟨S32x9, .i32⟩
  | .hbm, ⟨37, _⟩ => ⟨S32x9, .i1⟩
  | .hbm, ⟨38, _⟩ => ⟨S_, .i32⟩
  | .hbm, ⟨39, _⟩ => ⟨S32x9, .i32⟩
  | .hbm, ⟨40, _⟩ => ⟨S32x9, .i32⟩
  | .hbm, ⟨41, _⟩ => ⟨S32x9, .i32⟩
  | .hbm, ⟨42, _⟩ => ⟨S32x9x1, .i32⟩
  | .hbm, ⟨43, _⟩ => ⟨S8x32x9x64x8x64, .f32⟩
  | .hbm, ⟨44, _⟩ => ⟨S8x32x576x8x64, .f32⟩
  | .hbm, ⟨45, _⟩ => ⟨S8x32x8x64x576, .f32⟩
  | .hbm, ⟨46, _⟩ => ⟨S_, .f32⟩
  | .hbm, ⟨47, _⟩ => ⟨S8x32x8x64x576, .f32⟩
  | .hbm, ⟨48, _⟩ => ⟨S8x32x8x64x576, .f32⟩
  | .hbm, ⟨49, _⟩ => ⟨S64, .i32⟩
  | .hbm, ⟨50, _⟩ => ⟨S64x1, .i32⟩
  | .hbm, ⟨51, _⟩ => ⟨S576, .i32⟩
  | .hbm, ⟨52, _⟩ => ⟨S1x576, .i32⟩
  | .hbm, ⟨53, _⟩ => ⟨S64x576, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S_, .i32⟩
  | .hbm, ⟨68, _⟩ => ⟨S64x576, .i32⟩
  | .hbm, ⟨69, _⟩ => ⟨S64x576, .i32⟩
  | .hbm, ⟨70, _⟩ => ⟨S_, .i32⟩
  | .hbm, ⟨71, _⟩ => ⟨S64x576, .i32⟩
  | .hbm, ⟨72, _⟩ => ⟨S64x576, .i1⟩
  | .hbm, ⟨73, _⟩ => ⟨S_, .i32⟩
  | .hbm, ⟨74, _⟩ => ⟨S64x576, .i32⟩
  | .hbm, ⟨75, _⟩ => ⟨S64x576, .i32⟩
  | .hbm, ⟨76, _⟩ => ⟨S64x576, .i32⟩
  | .hbm, ⟨77, _⟩ => ⟨S64x576x1, .i32⟩
  | .hbm, ⟨78, _⟩ => ⟨S64x576x8, .f32⟩
  | .hbm, ⟨79, _⟩ => ⟨S8x64x576, .f32⟩
  | .hbm, ⟨80, _⟩ => ⟨S_, .i32⟩
  | .hbm, ⟨81, _⟩ => ⟨S32x9, .i32⟩
  | .hbm, ⟨82, _⟩ => ⟨S32x9, .i1⟩
  | .hbm, ⟨83, _⟩ => ⟨S32x9x64, .i1⟩
  | .hbm, ⟨84, _⟩ => ⟨S32x576, .i1⟩
  | .hbm, ⟨85, _⟩ => ⟨S1x32x1x1x576, .i1⟩
  | .hbm, ⟨86, _⟩ => ⟨S1x1x8x64x576, .f32⟩
  | .hbm, ⟨87, _⟩ => ⟨S8x32x8x64x576, .f32⟩
  | .hbm, ⟨88, _⟩ => ⟨S8x32x8x64x576, .f32⟩
  | .hbm, ⟨89, _⟩ => ⟨S_, .f32⟩
  | .hbm, ⟨90, _⟩ => ⟨S_, .f32⟩
  | .hbm, ⟨91, _⟩ => ⟨S8x32x8x64x576, .i1⟩
  | .hbm, ⟨92, _⟩ => ⟨S8x32x8x64x576, .f32⟩
  | .hbm, ⟨93, _⟩ => ⟨S8x32x8x64x576, .f32⟩
  | .hbm, ⟨94, _⟩ => ⟨S_, .f32⟩
  | .hbm, ⟨95, _⟩ => ⟨S8x32x8x64, .f32⟩
  | .hbm, ⟨96, _⟩ => ⟨S_, .f32⟩
  | .hbm, ⟨97, _⟩ => ⟨S8x32x8x64, .f32⟩
  | .hbm, ⟨98, _⟩ => ⟨S8x32x8x64, .f32⟩
  | .hbm, ⟨99, _⟩ => ⟨S8x32x8x64x1, .f32⟩
  | .hbm, ⟨100, _⟩ => ⟨S8x32x8x64x576, .f32⟩
  | .hbm, ⟨101, _⟩ => ⟨S8x32x8x64x576, .f32⟩
  | .hbm, ⟨102, _⟩ => ⟨S8x32x8x64x576, .f32⟩
  | .hbm, ⟨103, _⟩ => ⟨S_, .f32⟩
  | .hbm, ⟨104, _⟩ => ⟨S8x32x8x64, .f32⟩
  | .hbm, ⟨105, _⟩ => ⟨S8x32x8x64x1, .f32⟩
  | .hbm, ⟨106, _⟩ => ⟨S8x32x8x64x576, .f32⟩
  | .hbm, ⟨107, _⟩ => ⟨S8x32x8x64x576, .f32⟩
  | .hbm, ⟨108, _⟩ => ⟨S8x32x8x64x64, .f32⟩
  | .hbm, ⟨109, _⟩ => ⟨S8x32x64x8x64, .f32⟩
  | .hbm, ⟨110, _⟩ => ⟨S8x2048x512, .f32⟩
  | .hbm, ⟨111, _⟩ => ⟨S8x2048x512, .f32⟩
  | .hbm, ⟨112, _⟩ => ⟨S_, .f32⟩
  | .hbm, ⟨113, _⟩ => ⟨S8x2048, .f32⟩
  | .hbm, ⟨114, _⟩ => ⟨S8x2048x1, .f32⟩
  | .hbm, ⟨115, _⟩ => ⟨S_, .f32⟩
  | .hbm, ⟨116, _⟩ => ⟨S8x2048x1, .f32⟩
  | .hbm, ⟨117, _⟩ => ⟨S8x2048x1, .f32⟩
  | .hbm, ⟨118, _⟩ => ⟨S_, .f32⟩
  | .hbm, ⟨119, _⟩ => ⟨S8x2048x1, .f32⟩
  | .hbm, ⟨120, _⟩ => ⟨S8x2048x1, .f32⟩
  | .hbm, ⟨121, _⟩ => ⟨S8x2048x1, .f32⟩
  | .hbm, ⟨122, _⟩ => ⟨S8x2048x512, .f32⟩
  | .hbm, ⟨123, _⟩ => ⟨S8x2048x512, .f32⟩
  | .hbm, ⟨124, _⟩ => ⟨S1x1x512, .f32⟩
  | .hbm, ⟨125, _⟩ => ⟨S8x2048x512, .f32⟩
  | .hbm, ⟨126, _⟩ => ⟨S8x2048x512, .f32⟩
  | .hbm, ⟨127, _⟩ => ⟨S8x2048x512, .bf16⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_c_7 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]

def κ : String → Option EReal := fun
  | "mask" => some ⊥
  | _ => none
-- ==== KernelMoe.lean ====
abbrev S16384x1024 : Shape := ⟨2, ![16384, 1024]⟩
abbrev S16384x128 : Shape := ⟨2, ![16384, 128]⟩
abbrev S8x1024x1408 : Shape := ⟨3, ![8, 1024, 1408]⟩
abbrev S8x1408x1024 : Shape := ⟨3, ![8, 1408, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x128, .f32⟩
  | .hbm, ⟨3, _⟩ => ⟨S8x1024x1408, .bf16⟩
  | .hbm, ⟨4, _⟩ => ⟨S8x1024x1408, .bf16⟩
  | .hbm, ⟨5, _⟩ => ⟨S8x1408x1024, .bf16⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceMoeIdeal.lean ====
abbrev S16384x1024 : Shape := ⟨2, ![16384, 1024]⟩
abbrev S16384x128 : Shape := ⟨2, ![16384, 128]⟩
abbrev S8x1024x1408 : Shape := ⟨3, ![8, 1024, 1408]⟩
abbrev S8x1408x1024 : Shape := ⟨3, ![8, 1408, 1024]⟩
abbrev S1024 : Shape := ⟨1, ![1024]⟩
abbrev S16384x8 : Shape := ⟨2, ![16384, 8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x1408 : Shape := ⟨3, ![1, 1024, 1408]⟩
abbrev S1024x1408 : Shape := ⟨2, ![1024, 1408]⟩
abbrev S16384x1408 : Shape := ⟨2, ![16384, 1408]⟩
abbrev S1x1408x1024 : Shape := ⟨3, ![1, 1408, 1024]⟩
abbrev S1408x1024 : Shape := ⟨2, ![1408, 1024]⟩
abbrev S1x1024 : Shape := ⟨2, ![1, 1024]⟩

abbrev nBuf : Space → Nat
  | .hbm => 242
  | .vmem => 0
  | .smem => 0
  | _ => 0

abbrev hbmTy0_0 (i : Nat) : BufTy := match i % 128 with
  | 0 => ⟨S16384x1024, .bf16⟩
  | 1 => ⟨S16384x1024, .f32⟩
  | 2 => ⟨S16384x128, .f32⟩
  | 3 => ⟨S8x1024x1408, .bf16⟩
  | 4 => ⟨S8x1024x1408, .bf16⟩
  | 5 => ⟨S8x1408x1024, .bf16⟩
  | 6 => ⟨S1024, .f32⟩
  | 7 => ⟨S16384x1024, .f32⟩
  | 8 => ⟨S8x1024x1408, .f32⟩
  | 9 => ⟨S8x1024x1408, .f32⟩
  | 10 => ⟨S8x1408x1024, .f32⟩
  | 11 => ⟨S16384x8, .f32⟩
  | 12 => ⟨S16384x2, .f32⟩
  | 13 => ⟨S16384x2, .i32⟩
  | 14 => ⟨S_, .f32⟩
  | 15 => ⟨S16384, .f32⟩
  | 16 => ⟨S_, .f32⟩
  | 17 => ⟨S16384, .f32⟩
  | 18 => ⟨S16384, .f32⟩
  | 19 => ⟨S16384x1, .f32⟩
  | 20 => ⟨S16384x2, .f32⟩
  | 21 => ⟨S16384x2, .f32⟩
  | 22 => ⟨S16384x2, .f32⟩
  | 23 => ⟨S_, .f32⟩
  | 24 => ⟨S16384, .f32⟩
  | 25 => ⟨S16384x1, .f32⟩
  | 26 => ⟨S16384x2, .f32⟩
  | 27 => ⟨S16384x2, .f32⟩
  | 28 => ⟨S16384x2x1, .i32⟩
  | 29 => ⟨S1x1x8, .i32⟩
  | 30 => ⟨S16384x2x8, .i32⟩
  | 31 => ⟨S16384x2x8, .i32⟩
  | 32 => ⟨S16384x2x8, .i1⟩
  | 33 => ⟨S16384x2x8, .f32⟩
  | 34 => ⟨S16384x2x1, .f32⟩
  | 35 => ⟨S16384x2x8, .f32⟩
  | 36 => ⟨S16384x2x8, .f32⟩
  | 37 => ⟨S_, .f32⟩
  | 38 => ⟨S16384x8, .f32⟩
  | 39 => ⟨S_, .f32⟩
  | 40 => ⟨S16384x1024, .f32⟩
  | 41 => ⟨S16384x1, .f32⟩
  | 42 => ⟨S1x1024x1408, .f32⟩
  | 43 => ⟨S1024x1408, .f32⟩
  | 44 => ⟨S16384x1408, .f32⟩
  | 45 => ⟨S16384x1408, .f32⟩
  | 46 => ⟨S16384x1408, .f32⟩
  | 47 => ⟨S_, .f32⟩
  | 48 => ⟨S16384x1408, .f32⟩
  | 49 => ⟨S16384x1408, .f32⟩
  | 50 => ⟨S_, .f32⟩
  | 51 => ⟨S16384x1408, .f32⟩
  | 52 => ⟨S16384x1408, .f32⟩
  | 53 => ⟨S16384x1408, .f32⟩
  | 54 => ⟨S1x1024x1408, .f32⟩
  | 55 => ⟨S1024x1408, .f32⟩
  | 56 => ⟨S16384x1408, .f32⟩
  | 57 => ⟨S16384x1408, .f32⟩
  | 58 => ⟨S1x1408x1024, .f32⟩
  | 59 => ⟨S1408x1024, .f32⟩
  | 60 => ⟨S16384x1024, .f32⟩
  | 61 => ⟨S16384x1024, .f32⟩
  | 62 => ⟨S16384x1024, .f32⟩
  | 63 => ⟨S16384x1024, .f32⟩
  | 64 => ⟨S16384x1, .f32⟩
  | 65 => ⟨S1x1024x1408, .f32⟩
  | 66 => ⟨S1024x1408, .f32⟩
  | 67 => ⟨S16384x1408, .f32⟩
  | 68 => ⟨S16384x1408, .f32⟩
  | 69 => ⟨S16384x1408, .f32⟩
  | 70 => ⟨S_, .f32⟩
  | 71 => ⟨S16384x1408, .f32⟩
  | 72 => ⟨S16384x1408, .f32⟩
  | 73 => ⟨S_, .f32⟩
  | 74 => ⟨S16384x1408, .f32⟩
  | 75 => ⟨S16384x1408, .f32⟩
  | 76 => ⟨S16384x1408, .f32⟩
  | 77 => ⟨S1x1024x1408, .f32⟩
  | 78 => ⟨S1024x1408, .f32⟩
  | 79 => ⟨S16384x1408, .f32⟩
  | 80 => ⟨S16384x1408, .f32⟩
  | 81 => ⟨S1x1408x1024, .f32⟩
  | 82 => ⟨S1408x1024, .f32⟩
  | 83 => ⟨S16384x1024, .f32⟩
  | 84 => ⟨S16384x1024, .f32⟩
  | 85 => ⟨S16384x1024, .f32⟩
  | 86 => ⟨S16384x1024, .f32⟩
  | 87 => ⟨S16384x1, .f32⟩
  | 88 => ⟨S1x1024x1408, .f32⟩
  | 89 => ⟨S1024x1408, .f32⟩
  | 90 => ⟨S16384x1408, .f32⟩
  | 91 => ⟨S16384x1408, .f32⟩
  | 92 => ⟨S16384x1408, .f32⟩
  | 93 => ⟨S_, .f32⟩
  | 94 => ⟨S16384x1408, .f32⟩
  | 95 => ⟨S16384x1408, .f32⟩
  | 96 => ⟨S_, .f32⟩
  | 97 => ⟨S16384x1408, .f32⟩
  | 98 => ⟨S16384x1408, .f32⟩
  | 99 => ⟨S16384x1408, .f32⟩
  | 100 => ⟨S1x1024x1408, .f32⟩
  | 101 => ⟨S1024x1408, .f32⟩
  | 102 => ⟨S16384x1408, .f32⟩
  | 103 => ⟨S16384x1408, .f32⟩
  | 104 => ⟨S1x1408x1024, .f32⟩
  | 105 => ⟨S1408x1024, .f32⟩
  | 106 => ⟨S16384x1024, .f32⟩
  | 107 => ⟨S16384x1024, .f32⟩
  | 108 => ⟨S16384x1024, .f32⟩
  | 109 => ⟨S16384x1024, .f32⟩
  | 110 => ⟨S16384x1, .f32⟩
  | 111 => ⟨S1x1024x1408, .f32⟩
  | 112 => ⟨S1024x1408, .f32⟩
  | 113 => ⟨S16384x1408, .f32⟩
  | 114 => ⟨S16384x1408, .f32⟩
  | 115 => ⟨S16384x1408, .f32⟩
  | 116 => ⟨S_, .f32⟩
  | 117 => ⟨S16384x1408, .f32⟩
  | 118 => ⟨S16384x1408, .f32⟩
  | 119 => ⟨S_, .f32⟩
  | 120 => ⟨S16384x1408, .f32⟩
  | 121 => ⟨S16384x1408, .f32⟩
  | 122 => ⟨S16384x1408, .f32⟩
  | 123 => ⟨S1x1024x1408, .f32⟩
  | 124 => ⟨S1024x1408, .f32⟩
  | 125 => ⟨S16384x1408, .f32⟩
  | 126 => ⟨S16384x1408, .f32⟩
  | 127 => ⟨S1x1408x1024, .f32⟩
  | _ => ⟨S16384x1024, .bf16⟩

abbrev hbmTy0_1 (i : Nat) : BufTy := match i % 128 with
  | 0 => ⟨S1408x1024, .f32⟩
  | 1 => ⟨S16384x1024, .f32⟩
  | 2 => ⟨S16384x1024, .f32⟩
  | 3 => ⟨S16384x1024, .f32⟩
  | 4 => ⟨S16384x1024, .f32⟩
  | 5 => ⟨S16384x1, .f32⟩
  | 6 => ⟨S1x1024x1408, .f32⟩
  | 7 => ⟨S1024x1408, .f32⟩
  | 8 => ⟨S16384x1408, .f32⟩
  | 9 => ⟨S16384x1408, .f32⟩
  | 10 => ⟨S16384x1408, .f32⟩
  | 11 => ⟨S_, .f32⟩
  | 12 => ⟨S16384x1408, .f32⟩
  | 13 => ⟨S16384x1408, .f32⟩
  | 14 => ⟨S_, .f32⟩
  | 15 => ⟨S16384x1408, .f32⟩
  | 16 => ⟨S16384x1408, .f32⟩
  | 17 => ⟨S16384x1408, .f32⟩
  | 18 => ⟨S1x1024x1408, .f32⟩
  | 19 => ⟨S1024x1408, .f32⟩
  | 20 => ⟨S16384x1408, .f32⟩
  | 21 => ⟨S16384x1408, .f32⟩
  | 22 => ⟨S1x1408x1024, .f32⟩
  | 23 => ⟨S1408x1024, .f32⟩
  | 24 => ⟨S16384x1024, .f32⟩
  | 25 => ⟨S16384x1024, .f32⟩
  | 26 => ⟨S16384x1024, .f32⟩
  | 27 => ⟨S16384x1024, .f32⟩
  | 28 => ⟨S16384x1, .f32⟩
  | 29 => ⟨S1x1024x1408, .f32⟩
  | 30 => ⟨S1024x1408, .f32⟩
  | 31 => ⟨S16384x1408, .f32⟩
  | 32 => ⟨S16384x1408, .f32⟩
  | 33 => ⟨S16384x1408, .f32⟩
  | 34 => ⟨S_, .f32⟩
  | 35 => ⟨S16384x1408, .f32⟩
  | 36 => ⟨S16384x1408, .f32⟩
  | 37 => ⟨S_, .f32⟩
  | 38 => ⟨S16384x1408, .f32⟩
  | 39 => ⟨S16384x1408, .f32⟩
  | 40 => ⟨S16384x1408, .f32⟩
  | 41 => ⟨S1x1024x1408, .f32⟩
  | 42 => ⟨S1024x1408, .f32⟩
  | 43 => ⟨S16384x1408, .f32⟩
  | 44 => ⟨S16384x1408, .f32⟩
  | 45 => ⟨S1x1408x1024, .f32⟩
  | 46 => ⟨S1408x1024, .f32⟩
  | 47 => ⟨S16384x1024, .f32⟩
  | 48 => ⟨S16384x1024, .f32⟩
  | 49 => ⟨S16384x1024, .f32⟩
  | 50 => ⟨S16384x1024, .f32⟩
  | 51 => ⟨S16384x1, .f32⟩
  | 52 => ⟨S1x1024x1408, .f32⟩
  | 53 => ⟨S1024x1408, .f32⟩
  | 54 => ⟨S16384x1408, .f32⟩
  | 55 => ⟨S16384x1408, .f32⟩
  | 56 => ⟨S16384x1408, .f32⟩
  | 57 => ⟨S_, .f32⟩
  | 58 => ⟨S16384x1408, .f32⟩
  | 59 => ⟨S16384x1408, .f32⟩
  | 60 => ⟨S_, .f32⟩
  | 61 => ⟨S16384x1408, .f32⟩
  | 62 => ⟨S16384x1408, .f32⟩
  | 63 => ⟨S16384x1408, .f32⟩
  | 64 => ⟨S1x1024x1408, .f32⟩
  | 65 => ⟨S1024x1408, .f32⟩
  | 66 => ⟨S16384x1408, .f32⟩
  | 67 => ⟨S16384x1408, .f32⟩
  | 68 => ⟨S1x1408x1024, .f32⟩
  | 69 => ⟨S1408x1024, .f32⟩
  | 70 => ⟨S16384x1024, .f32⟩
  | 71 => ⟨S16384x1024, .f32⟩
  | 72 => ⟨S16384x1024, .f32⟩
  | 73 => ⟨S16384x1024, .f32⟩
  | 74 => ⟨S16384x1, .f32⟩
  | 75 => ⟨S1x1024x1408, .f32⟩
  | 76 => ⟨S1024x1408, .f32⟩
  | 77 => ⟨S16384x1408, .f32⟩
  | 78 => ⟨S16384x1408, .f32⟩
  | 79 => ⟨S16384x1408, .f32⟩
  | 80 => ⟨S_, .f32⟩
  | 81 => ⟨S16384x1408, .f32⟩
  | 82 => ⟨S16384x1408, .f32⟩
  | 83 => ⟨S_, .f32⟩
  | 84 => ⟨S16384x1408, .f32⟩
  | 85 => ⟨S16384x1408, .f32⟩
  | 86 => ⟨S16384x1408, .f32⟩
  | 87 => ⟨S1x1024x1408, .f32⟩
  | 88 => ⟨S1024x1408, .f32⟩
  | 89 => ⟨S16384x1408, .f32⟩
  | 90 => ⟨S16384x1408, .f32⟩
  | 91 => ⟨S1x1408x1024, .f32⟩
  | 92 => ⟨S1408x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S_, .f32⟩
  | 100 => ⟨S16384, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384x1, .f32⟩
  | 107 => ⟨S16384x1, .f32⟩
  | 108 => ⟨S16384x1, .f32⟩
  | 109 => ⟨S16384x1024, .f32⟩
  | 110 => ⟨S16384x1024, .f32⟩
  | 111 => ⟨S1x1024, .f32⟩
  | 112 => ⟨S16384x1024, .f32⟩
  | 113 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_values : Ref sig .tc := ⟨.hbm, 12, rfl⟩
abbrev main_indices : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_call5_v0 : Ref sig .tc := ⟨.hbm, 137, rfl⟩
abbrev main_call5_v1 : Ref sig .tc := ⟨.hbm, 138, rfl⟩
abbrev main_call5_cst : Ref sig .tc := ⟨.hbm, 139, rfl⟩
abbrev main_call5_v2 : Ref sig .tc := ⟨.hbm, 140, rfl⟩
abbrev main_call5_v3 : Ref sig .tc := ⟨.hbm, 141, rfl⟩
abbrev main_call5_cst_0 : Ref sig .tc := ⟨.hbm, 142, rfl⟩
abbrev main_call5_v4 : Ref sig .tc := ⟨.hbm, 143, rfl⟩
abbrev main_call5_v5 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_call6_v0 : Ref sig .tc := ⟨.hbm, 160, rfl⟩
abbrev main_call6_v1 : Ref sig .tc := ⟨.hbm, 161, rfl⟩
abbrev main_call6_cst : Ref sig .tc := ⟨.hbm, 162, rfl⟩
abbrev main_call6_v2 : Ref sig .tc := ⟨.hbm, 163, rfl⟩
abbrev main_call6_v3 : Ref sig .tc := ⟨.hbm, 164, rfl⟩
abbrev main_call6_cst_0 : Ref sig .tc := ⟨.hbm, 165, rfl⟩
abbrev main_call6_v4 : Ref sig .tc := ⟨.hbm, 166, rfl⟩
abbrev main_call6_v5 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_call7_v0 : Ref sig .tc := ⟨.hbm, 183, rfl⟩
abbrev main_call7_v1 : Ref sig .tc := ⟨.hbm, 184, rfl⟩
abbrev main_call7_cst : Ref sig .tc := ⟨.hbm, 185, rfl⟩
abbrev main_call7_v2 : Ref sig .tc := ⟨.hbm, 186, rfl⟩
abbrev main_call7_v3 : Ref sig .tc := ⟨.hbm, 187, rfl⟩
abbrev main_call7_cst_0 : Ref sig .tc := ⟨.hbm, 188, rfl⟩
abbrev main_call7_v4 : Ref sig .tc := ⟨.hbm, 189, rfl⟩
abbrev main_call7_v5 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_call8_v0 : Ref sig .tc := ⟨.hbm, 206, rfl⟩
abbrev main_call8_v1 : Ref sig .tc := ⟨.hbm, 207, rfl⟩
abbrev main_call8_cst : Ref sig .tc := ⟨.hbm, 208, rfl⟩
abbrev main_call8_v2 : Ref sig .tc := ⟨.hbm, 209, rfl⟩
abbrev main_call8_v3 : Ref sig .tc := ⟨.hbm, 210, rfl⟩
abbrev main_call8_cst_0 : Ref sig .tc := ⟨.hbm, 211, rfl⟩
abbrev main_call8_v4 : Ref sig .tc := ⟨.hbm, 212, rfl⟩
abbrev main_call8_v5 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_cst_4 : Ref sig .tc := ⟨.hbm, 227, rfl⟩
abbrev main_v144 : Ref sig .tc := ⟨.hbm, 228, rfl⟩
abbrev main_v145 : Ref sig .tc := ⟨.hbm, 229, rfl⟩
abbrev main_cst_5 : Ref sig .tc := ⟨.hbm, 230, rfl⟩
abbrev main_v146 : Ref sig .tc := ⟨.hbm, 231, rfl⟩
abbrev main_v147 : Ref sig .tc := ⟨.hbm, 232, rfl⟩
abbrev main_cst_6 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩

abbrev nD : Nat := 1
abbrev τ : Topo := Topo.v7x

variable {F : FTy → Type} [FloatOps F]
-- ==== KernelFfn.lean ====
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== KernelIn.lean ====
abbrev S8x2048x1024 : Shape := ⟨3, ![8, 2048, 1024]⟩
abbrev S2x1024 : Shape := ⟨2, ![2, 1024]⟩
abbrev S2x1024x3328 : Shape := ⟨3, ![2, 1024, 3328]⟩
abbrev S1x1024x1792 : Shape := ⟨3, ![1, 1024, 1792]⟩
abbrev S1024x1792 : Shape := ⟨2, ![1024, 1792]⟩
abbrev S1x1024x1536 : Shape := ⟨3, ![1, 1024, 1536]⟩
abbrev S1024x1536 : Shape := ⟨2, ![1024, 1536]⟩
abbrev S16384x1024 : Shape := ⟨2, ![16384, 1024]⟩
abbrev S1x1024 : Shape := ⟨2, ![1, 1024]⟩
abbrev S1024 : Shape := ⟨1, ![1024]⟩
abbrev S16384x1792 : Shape := ⟨2, ![16384, 1792]⟩
abbrev S16384x1536 : Shape := ⟨2, ![16384, 1536]⟩
abbrev S512x1024 : Shape := ⟨2, ![512, 1024]⟩
abbrev S512x1792 : Shape := ⟨2, ![512, 1792]⟩
abbrev S512x1536 : Shape := ⟨2, ![512, 1536]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x3328, .f32⟩
  | .hbm, ⟨3, _⟩ => ⟨S1x1024x1792, .f32⟩
  | .hbm, ⟨4, _⟩ => ⟨S1024x1792, .f32⟩
  | .hbm, ⟨5, _⟩ => ⟨S1024x1792, .bf16⟩
  | .hbm, ⟨6, _⟩ => ⟨S1x1024x1536, .f32⟩
  | .hbm, ⟨7, _⟩ => ⟨S1024x1536, .f32⟩
  | .hbm, ⟨8, _⟩ => ⟨S1024x1536, .bf16⟩
  | .hbm, ⟨9, _⟩ => ⟨S16384x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S16384x1792, .f32⟩
  | .hbm, ⟨14, _⟩ => ⟨S16384x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1536, .bf16⟩
  | .local _ .vmem, ⟨5, _⟩ => ⟨S512x1792, .f32⟩
  | .local _ .vmem, ⟨6, _⟩ => ⟨S512x1792, .f32⟩
  | .local _ .vmem, ⟨7, _⟩ => ⟨S512x1536, .bf16⟩
  | .local _ .vmem, ⟨8, _⟩ => ⟨S512x1536, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceInIdeal.lean ====
abbrev S8x2048x1024 : Shape := ⟨3, ![8, 2048, 1024]⟩
abbrev S2x1024 : Shape := ⟨2, ![2, 1024]⟩
abbrev S2x1024x3328 : Shape := ⟨3, ![2, 1024, 3328]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x1024x3328 : Shape := ⟨3, ![1, 1024, 3328]⟩
abbrev S1024x3328 : Shape := ⟨2, ![1024, 3328]⟩
abbrev S8x2048x3328 : Shape := ⟨3, ![8, 2048, 3328]⟩
abbrev S8x2048x1792 : Shape := ⟨3, ![8, 2048, 1792]⟩
abbrev S16384x1792 : Shape := ⟨2, ![16384, 1792]⟩
abbrev S8x2048x1536 : Shape := ⟨3, ![8, 2048, 1536]⟩
abbrev S16384x1536 : Shape := ⟨2, ![16384, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x3328, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x3328, .f32⟩
  | .hbm, ⟨22, _⟩ => ⟨S1024x3328, .f32⟩
  | .hbm, ⟨23, _⟩ => ⟨S8x2048x3328, .f32⟩
  | .hbm, ⟨24, _⟩ => ⟨S8x2048x1792, .f32⟩
  | .hbm, ⟨25, _⟩ => ⟨S16384x1792, .f32⟩
  | .hbm, ⟨26, _⟩ => ⟨S8x2048x1536, .f32⟩
  | .hbm, ⟨27, _⟩ => ⟨S16384x1536, .f32⟩
  | .hbm, ⟨28, _⟩ => ⟨S16384x1536, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelOut.lean ====
abbrev S16384x512 : Shape := ⟨2, ![16384, 512]⟩
abbrev S16384x1024 : Shape := ⟨2, ![16384, 1024]⟩
abbrev S2x1024x1024 : Shape := ⟨3, ![2, 1024, 1024]⟩
abbrev S2x1024 : Shape := ⟨2, ![2, 1024]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S16384x128 : Shape := ⟨2, ![16384, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S2x1024, .f32⟩
  | .hbm, ⟨5, _⟩ => ⟨S1x1024x8, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1x1024x1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S16384x1024, .bf16⟩
  | .hbm, ⟨18, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutIdeal.lean ====
abbrev S16384x512 : Shape := ⟨2, ![16384, 512]⟩
abbrev S16384x1024 : Shape := ⟨2, ![16384, 1024]⟩
abbrev S2x1024x1024 : Shape := ⟨3, ![2, 1024, 1024]⟩
abbrev S2x1024 : Shape := ⟨2, ![2, 1024]⟩
abbrev S1x1024x8 : Shape := ⟨3, ![1, 1024, 8]⟩
abbrev S1x1024x1024 : Shape := ⟨3, ![1, 1024, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1024x8 : Shape := ⟨2, ![1024, 8]⟩
abbrev S16384x8 : Shape := ⟨2, ![16384, 8]⟩
abbrev S16384x128 : Shape := ⟨2, ![16384, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S2x1024, .f32⟩
  | .hbm, ⟨5, _⟩ => ⟨S1x1024x8, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S1x1024x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | .hbm, ⟨32, _⟩ => ⟨S1024x8, .f32⟩
  | .hbm, ⟨33, _⟩ => ⟨S16384x8, .f32⟩
  | .hbm, ⟨34, _⟩ => ⟨S_, .i32⟩
  | .hbm, ⟨35, _⟩ => ⟨S_, .f32⟩
  | .hbm, ⟨36, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== KernelMix.lean ====
abbrev S16384x512 : Shape := ⟨2, ![16384, 512]⟩
abbrev S16384x1024 : Shape := ⟨2, ![16384, 1024]⟩
abbrev S2x1024x1024 : Shape := ⟨3, ![2, 1024, 1024]⟩
abbrev S2x1024 : Shape := ⟨2, ![2, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S2x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMixIdeal.lean ====
abbrev S16384x512 : Shape := ⟨2, ![16384, 512]⟩
abbrev S16384x1024 : Shape := ⟨2, ![16384, 1024]⟩
abbrev S2x1024x1024 : Shape := ⟨3, ![2, 1024, 1024]⟩
abbrev S2x1024 : Shape := ⟨2, ![2, 1024]⟩
abbrev S1x1024x1024 : Shape := ⟨3, ![1, 1024, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S2x1024x1024, .f32⟩
  | .hbm, ⟨4, _⟩ => ⟨S2x1024, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S1x1024x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelRwkv.lean ====
abbrev S8x2048x1792 : Shape := ⟨3, ![8, 2048, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S64x1024 : Shape := ⟨2, ![64, 1024]⟩
abbrev S128x1024 : Shape := ⟨2, ![128, 1024]⟩
abbrev S8x512 : Shape := ⟨2, ![8, 512]⟩
abbrev S1x1792 : Shape := ⟨2, ![1, 1792]⟩
abbrev S8x2048x512 : Shape := ⟨3, ![8, 2048, 512]⟩
abbrev S1x64x1792 : Shape := ⟨3, ![1, 64, 1792]⟩
abbrev S1x8x1792 : Shape := ⟨3, ![1, 8, 1792]⟩
abbrev S1x64x512 : Shape := ⟨3, ![1, 64, 512]⟩
abbrev S4x128x128 : Shape := ⟨3, ![4, 128, 128]⟩
abbrev S64x1792 : Shape := ⟨2, ![64, 1792]⟩
abbrev S8x1792 : Shape := ⟨2, ![8, 1792]⟩
abbrev S64x128 : Shape := ⟨2, ![64, 128]⟩
abbrev S64x64 : Shape := ⟨2, ![64, 64]⟩
abbrev S128x128 : Shape := ⟨2, ![128, 128]⟩
abbrev S256x128 : Shape := ⟨2, ![256, 128]⟩
abbrev S256x256 : Shape := ⟨2, ![256, 256]⟩
abbrev S128x256 : Shape := ⟨2, ![128, 256]⟩
abbrev S1x128 : Shape := ⟨2, ![1, 128]⟩
abbrev S1x128x128 : Shape := ⟨3, ![1, 128, 128]⟩

abbrev nBuf : Space → Nat
  | .hbm => 57
  | .vmem => 12
  | .smem => 0
  | _ => 0

abbrev bufTy : (tb : Table) → Fin (tcTables nBuf tb) → BufTy
  | .hbm, ⟨0, _⟩ => ⟨S8x2048x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .bf16⟩
  | .hbm, ⟨37, _⟩ => ⟨S_, .f32⟩
  | .hbm, ⟨38, _⟩ => ⟨S64x512, .f32⟩
  | .hbm, ⟨39, _⟩ => ⟨S64x1024, .f32⟩
  | .hbm, ⟨40, _⟩ => ⟨S64x1024, .f32⟩
  | .hbm, ⟨41, _⟩ => ⟨S128x1024, .f32⟩
  | .hbm, ⟨42, _⟩ => ⟨S128x1024, .bf16⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S8x512, .f32⟩
  | .hbm, ⟨54, _⟩ => ⟨S1x1792, .f32⟩
  | .hbm, ⟨55, _⟩ => ⟨S128x512, .bf16⟩
  | .hbm, ⟨56, _⟩ => ⟨S8x2048x512, .bf16⟩
  | .local _ .vmem, ⟨0, _⟩ => ⟨S1x64x1792, .f32⟩
  | .local _ .vmem, ⟨1, _⟩ => ⟨S1x64x1792, .f32⟩
  | .local _ .vmem, ⟨2, _⟩ => ⟨S1x8x1792, .f32⟩
  | .local _ .vmem, ⟨3, _⟩ => ⟨S1x8x1792, .f32⟩
  | .local _ .vmem, ⟨4, _⟩ => ⟨S1x1792, .f32⟩
  | .local _ .vmem, ⟨5, _⟩ => ⟨S8x512, .f32⟩
  | .local _ .vmem, ⟨6, _⟩ => ⟨S128x1024, .bf16⟩
  | .local _ .vmem, ⟨7, _⟩ => ⟨S128x512, .bf16⟩
  | .local _ .vmem, ⟨8, _⟩ => ⟨S512x512, .bf16⟩
  | .local _ .vmem, ⟨9, _⟩ => ⟨S1x64x512, .bf16⟩
  | .local _ .vmem, ⟨10, _⟩ => ⟨S1x64x512, .bf16⟩
  | .local _ .vmem, ⟨11, _⟩ => ⟨S4x128x128, .f32⟩
  | _, _ => ⟨S8x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.FfnValue.lean ====
/- The dense feed-forward: what the kernel leaves in its result array, as the reference's composed term. -/
module

public import proofs.«01_k».proof.Proof.Gen.KernelFfnIdeal.Value
public import proofs.«01_k».proof.Proof.Gen.ReferenceFfnIdeal.Read
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelFfnIdeal.FfnValue

open Cert.KernelFfnIdeal Cert.KernelFfnIdeal.Gen

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

/-- One hidden unit's contribution to an output element: the gated unit `f` of a row `h` times its output weight. -/
def unit (h : Fin 1024 → EReal) (wg wu : Vec Ideal S1024x2816 .bf16) (wd : Vec Ideal S2816x1024 .bf16) (d : Fin 1024) (f : Fin 2816) : EReal :=
  ((∑ k, h k * wg (ix2 k f)) * Ideal.div 1 (1 + Ideal.exp (-∑ k, h k * wg (ix2 k f))) * ∑ k, h k * wu (ix2 k f)) * wd (ix2 f d)

/-- A sum whose last 256 terms are split off. -/
theorem sum_split (a : ℕ) (g : Fin (a + 256) → EReal) :
    ∑ f, g f = ∑ f : Fin a, g ⟨f.val, by omega⟩ + ∑ k : Fin 256, g ⟨a + k.val, by omega⟩ := Fin.sum_univ_add g

/-- The sum over all 2816 hidden units, taken tile by tile in the kernel's order. -/
theorem sum_tiles (g : Fin 2816 → EReal) :
    ∑ f, g f = ((((((((((∑ k : Fin 256, g ⟨k.val, by omega⟩) + ∑ k : Fin 256, g ⟨256 + k.val, by omega⟩) + ∑ k : Fin 256, g ⟨512 + k.val, by omega⟩)
      + ∑ k : Fin 256, g ⟨768 + k.val, by omega⟩) + ∑ k : Fin 256, g ⟨1024 + k.val, by omega⟩) + ∑ k : Fin 256, g ⟨1280 + k.val, by omega⟩)
      + ∑ k : Fin 256, g ⟨1536 + k.val, by omega⟩) + ∑ k : Fin 256, g ⟨1792 + k.val, by omega⟩) + ∑ k : Fin 256, g ⟨2048 + k.val, by omega⟩)
      + ∑ k : Fin 256, g ⟨2304 + k.val, by omega⟩) + ∑ k : Fin 256, g ⟨2560 + k.val, by omega⟩ := by
  rw [show ∑ f, g f = _ from sum_split 2560 g]; congr 1
  rw [show ∑ f : Fin 2560, _ = _ from sum_split 2304 _]; congr 1
  rw [show ∑ f : Fin 2304, _ = _ from sum_split 2048 _]; congr 1
  rw [show ∑ f : Fin 2048, _ = _ from sum_split 1792 _]; congr 1
  rw [show ∑ f : Fin 1792, _ = _ from sum_split 1536 _]; congr 1
  rw [show ∑ f : Fin 1536, _ = _ from sum_split 1280 _]; congr 1
  rw [show ∑ f : Fin 1280, _ = _ from sum_split 1024 _]; congr 1
  rw [show ∑ f : Fin 1024, _ = _ from sum_split 768 _]; congr 1
  rw [show ∑ f : Fin 768, _ = _ from sum_split 512 _]; congr 1
  rw [show ∑ f : Fin 512, _ = _ from sum_split 256 _]

/-- What the body leaves at row `r` and column `d` of its block: the residual plus the sum over all hidden units. -/
theorem block_apply (x0 : Vec Ideal S512x1024 .bf16) (x1 : Vec Ideal S512x1024 .f32) (x2 x3 : Vec Ideal S1024x2816 .bf16) (x4 : Vec Ideal S2816x1024 .bf16) (r : Fin 512) (d : Fin 1024) :
    out0_5 x0 x1 x2 x3 x4 (ix2 r d) = x1 (ix2 r d) + ∑ f, unit (fun k => x0 (ix2 r k)) x2 x3 x4 d f := by
  frame_out
  pointwise [k0_pay1, k0_pay2, k0_pay3, k0_pay4, k0_pay5, k0_pay6, k0_pay7, k0_pay8, k0_pay9]
  rw [sum_tiles]
  simp only [zero_sub, unit]

/-- The reference at row `r` and column `d`: the residual plus the sum over all hidden units. -/
theorem ref_apply (x0 : Vec Ideal S16384x1024 .bf16) (x1 : Vec Ideal S16384x1024 .f32) (x2 x3 : Vec Ideal S1024x2816 .bf16) (x4 : Vec Ideal S2816x1024 .bf16) (r : Fin 16384) (d : Fin 1024) :
    Cert.ReferenceFfnIdeal.Read.val_main_v9 (F := Ideal) x0 x1 x2 x3 x4 (ix2 r d) = x1 (ix2 r d) + ∑ f, unit (fun k => x0 (ix2 r k)) x2 x3 x4 d f := by
  rw [← Cert.ReferenceFfnIdeal.Read.val_main_v9_eq]
  pointwise
  rfl

/-- The result array after the run is the reference's term of the argument arrays. -/
theorem final (c : Dev nD) : (dats m 0 c).arrAt 5 cfg0.N
    = Cert.ReferenceFfnIdeal.Read.val_main_v9 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [block_apply]
  have e2 : iblk m c 2 t = m ((c : Thread nD τ).loc main_arg2) := by blk_ext! [iblk, V, idx t]
  have e3 : iblk m c 3 t = m ((c : Thread nD τ).loc main_arg3) := by blk_ext! [iblk, V, idx t]
  have e4 : iblk m c 4 t = m ((c : Thread nD τ).loc main_arg4) := by blk_ext! [iblk, V, idx t]
  rw [e2, e3, e4]
  have h := (idx t).2.2.2.2.2.2
  have e : ((cfg0.win 5).blk t).view.emb (ix2 y0 y1) = ix2 (⟨t.val * 512 + y0.val, by omega⟩ : Fin 16384) y1 := by blk_ext [iblk, V, idx t]
  rw [e]
  refine Eq.trans ?_ (ref_apply _ _ _ _ _ _ _).symm
  have h0 (k : Fin 1024) : iblk m c 0 t (ix2 y0 k) = m ((c : Thread nD τ).loc main_arg0) (ix2 (⟨t.val * 512 + y0.val, by omega⟩ : Fin 16384) k) := by blk_ext [iblk, V, idx t]
  have h1 : iblk m c 1 t (ix2 y0 y1) = m ((c : Thread nD τ).loc main_arg1) (ix2 (⟨t.val * 512 + y0.val, by omega⟩ : Fin 16384) y1) := by blk_ext [iblk, V, idx t]
  simp only [h0, h1]

end Cert.KernelFfnIdeal.FfnValue

end
-- ==== Proof.InValue.lean ====
/- The input projection: what the kernel leaves in its two result arrays, as the reference's composed terms. -/
module

public import proofs.«01_k».proof.Proof.Gen.KernelInIdeal.Value
public import proofs.«01_k».proof.Proof.Gen.ReferenceInIdeal.Read
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelInIdeal.InValue

open Cert.KernelInIdeal Cert.KernelInIdeal.Gen

variable (m : (ℓ : Loc nD τ sig) → Buf (Elt Ideal) ℓ)

/-- The block index of every window at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ t.val < 32 :=
  (by decide +kernel : ∀ t : Fin grid0.N, _)

/-- Element `k` of a normalized row: the row's element times the reciprocal root of its mean square, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- What the body leaves in its first output block: the normalized row times a column of the first weight. -/
theorem block4_apply (x0 : Vec Ideal S512x1024 .f32) (x1 : Vec Ideal S1x1024 .f32) (x2 : Vec Ideal S1024x1792 .bf16) (x3 : Vec Ideal S1024x1536 .bf16) (r : Fin 512) (d : Fin 1792) :
    out0_4 x0 x1 x2 x3 (ix2 r d) = ∑ k, normed (fun k => x0 (ix2 r k)) (fun k => x1 (ix2 0 k)) k * x2 (ix2 k d) := by
  frame_out
  pointwise [k0_pay1, k0_pay2]
  rfl

/-- What the body leaves in its second output block: the normalized row times a column of the second weight. -/
theorem block5_apply (x0 : Vec Ideal S512x1024 .f32) (x1 : Vec Ideal S1x1024 .f32) (x2 : Vec Ideal S1024x1792 .bf16) (x3 : Vec Ideal S1024x1536 .bf16) (r : Fin 512) (d : Fin 1536) :
    out0_5 x0 x1 x2 x3 (ix2 r d) = ∑ k, normed (fun k => x0 (ix2 r k)) (fun k => x1 (ix2 0 k)) k * x3 (ix2 k d) := by
  frame_out
  pointwise [k0_pay1, k0_pay3]
  rfl

/-- The reference's first result at a token and a column. -/
theorem ref4_apply (x0 : Vec Ideal S8x2048x1024 .f32) (x1 : Vec Ideal S2x1024 .f32) (x2 : Vec Ideal S2x1024x3328 .f32) (r : Fin 16384) (d : Fin 1792) :
    Cert.ReferenceInIdeal.Read.val_main_v19 (F := Ideal) x0 x1 x2 (ix2 r d)
      = ∑ k, normed (fun k => x0 (ix3 ⟨r.val / 2048, by omega⟩ ⟨r.val % 2048, by omega⟩ k)) (fun k => x1 (ix2 0 k)) k * x2 (ix3 0 k ⟨d.val, by omega⟩) := by
  rw [← Cert.ReferenceInIdeal.Read.val_main_v19_eq]
  pointwise
  rfl

/-- The reference's second result at a token and a column. -/
theorem ref5_apply (x0 : Vec Ideal S8x2048x1024 .f32) (x1 : Vec Ideal S2x1024 .f32) (x2 : Vec Ideal S2x1024x3328 .f32) (r : Fin 16384) (d : Fin 1536) :
    Cert.ReferenceInIdeal.Read.val_main_v22 (F := Ideal) x0 x1 x2 (ix2 r d)
      = ∑ k, normed (fun k => x0 (ix3 ⟨r.val / 2048, by omega⟩ ⟨r.val % 2048, by omega⟩ k)) (fun k => x1 (ix2 0 k)) k * x2 (ix3 0 k ⟨1792 + d.val, by omega⟩) := by
  rw [← Cert.ReferenceInIdeal.Read.val_main_v22_eq]
  pointwise
  rfl

/-- A block of tokens, read from the argument array. -/
theorem tokens (c : Dev nD) (t : Fin cfg0.N) (r : Fin 512) (k : Fin 1024) :
    iblk m c 0 t (ix2 r k) = m ((c : Thread nD τ).loc main_arg0)
      (ix3 (⟨(t.val * 512 + r.val) / 2048, by have := (idx t).2.2.2.2.2.2; omega⟩ : Fin 8) (⟨(t.val * 512 + r.val) % 2048, by omega⟩ : Fin 2048) k) := by
  blk_simp [iblk]
  entry_read
  pointwise
  blk_ext [idx t]

/-- The gain, read from the argument array. -/
theorem gain (c : Dev nD) (t : Fin cfg0.N) (k : Fin 1024) :
    iblk m c 1 t (ix2 (0 : Fin 1) k) = m ((c : Thread nD τ).loc main_arg1) (ix2 (0 : Fin 2) k) := by
  blk_simp [iblk]
  entry_read
  pointwise
  blk_ext [idx t]

/-- The first weight, read from the argument array. -/
theorem weight2 (c : Dev nD) (t : Fin cfg0.N) (k : Fin 1024) (d : Fin 1792) :
    iblk m c 2 t (ix2 k d) = m ((c : Thread nD τ).loc main_arg2) (ix3 (0 : Fin 2) k (⟨d.val, by omega⟩ : Fin 3328)) := by
  blk_simp [iblk]
  entry_read
  pointwise
  blk_ext [idx t]

/-- The second weight, read from the argument array. -/
theorem weight3 (c : Dev nD) (t : Fin cfg0.N) (k : Fin 1024) (d : Fin 1536) :
    iblk m c 3 t (ix2 k d) = m ((c : Thread nD τ).loc main_arg2) (ix3 (0 : Fin 2) k (⟨1792 + d.val, by omega⟩ : Fin 3328)) := by
  blk_simp [iblk]
  entry_read
  pointwise
  blk_ext [idx t]

/-- The first result array after the run is the reference's term of the argument arrays. -/
theorem final4 (c : Dev nD) : (dats m 0 c).arrAt 4 cfg0.N
    = Cert.ReferenceInIdeal.Read.val_main_v19 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  idx_vars y
  rw [block4_apply]
  have h := (idx t).2.2.2.2.2.2
  have e : ((cfg0.win 4).blk t).view.emb (ix2 y0 y1) = ix2 (⟨t.val * 512 + y0.val, by omega⟩ : Fin 16384) y1 := by blk_ext [iblk, V, idx t]
  rw [e]
  refine Eq.trans ?_ (ref4_apply _ _ _ _ _).symm
  simp only [tokens, gain, weight2]

/-- The second result array after the run is the reference's term of the argument arrays. -/
theorem final5 (c : Dev nD) : (dats m 0 c).arrAt 5 cfg0.N
    = Cert.ReferenceInIdeal.Read.val_main_v22 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  idx_vars y
  rw [block5_apply]
  have h := (idx t).2.2.2.2.2.2
  have e : ((cfg0.win 5).blk t).view.emb (ix2 y0 y1) = ix2 (⟨t.val * 512 + y0.val, by omega⟩ : Fin 16384) y1 := by blk_ext [iblk, V, idx t]
  rw [e]
  refine Eq.trans ?_ (ref5_apply _ _ _ _ _).symm
  simp only [tokens, gain, weight3]

end Cert.KernelInIdeal.InValue

end
-- ==== Proof.FfnInClaims.lean ====
/- The value claims of the dense feed-forward and of the input projection. -/
module

public import proofs.«01_k».proof.Defs
public import proofs.«01_k».proof.Proof.FfnValue
public import proofs.«01_k».proof.Proof.InValue
public import proofs.«01_k».proof.Proof.Gen.ReferenceFfnIdeal.Run
public import proofs.«01_k».proof.Proof.Gen.ReferenceInIdeal.Run

@[expose] public section

noncomputable section

namespace Cert.Proof

open Idealize.ShloMosaic Idealize.ShloMosaic.TcCoe Idealize.SL.Sem

attribute [local instance] Cert.KernelFfnIdeal.Gen.facts Cert.ReferenceFfnIdeal.Gen.facts Cert.KernelInIdeal.Gen.facts Cert.ReferenceInIdeal.Gen.facts

/-- The reference of the dense feed-forward runs, leaves its arguments and declares no semaphore. -/
theorem frame_ReferenceFfn : Cert.quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

/-- The reference of the input projection runs, leaves its arguments and declares no semaphore. -/
theorem frame_ReferenceIn : Cert.quiescent_ReferenceInIdeal := fun m ρ _ =>
  (θ_run Cert.ReferenceInIdeal.defs _ _).mono (fun r h => ⟨fun c => (h c).2.2, sem_eq_zero_of_no_sems (by decide) r.2⟩)
    (Cert.ReferenceInIdeal.Value.run (F := Ideal) m ρ)

/-- The dense feed-forward's kernel and reference end with equal results. -/
theorem algebraic_Ffn : Cert.algebraic_KernelFfnIdeal_ReferenceFfnIdeal := by
  intro m ρ m' ρ' _ hagree
  refine ⟨_, Cert.KernelFfnIdeal.Value.run_blocks (F := Ideal) m ρ, ?_⟩
  refine (θ_run Cert.ReferenceFfnIdeal.defs _ _).mono (fun _ h c => ⟨(h c).1.trans ?_, (h c).2⟩)
    (Cert.ReferenceFfnIdeal.Value.run (F := Ideal) m' ρ')
  obtain ⟨e0, e1, e2, e3, e4⟩ := hagree c
  rw [e0, e1, e2, e3, e4]
  exact (Cert.ReferenceFfnIdeal.Read.val_main_v9_eq _ _ _ _ _).trans (Cert.KernelFfnIdeal.FfnValue.final m c).symm

/-- The input projection's kernel and reference end with equal results. -/
theorem algebraic_In : Cert.algebraic_KernelInIdeal_ReferenceInIdeal := by
  intro m ρ m' ρ' _ hagree
  refine ⟨_, _, Cert.KernelInIdeal.Value.run_blocks (F := Ideal) m ρ, ?_⟩
  refine (θ_run Cert.ReferenceInIdeal.defs _ _).mono (fun _ h c => ⟨(h c).1.trans ?_, (h c).2.1.trans ?_, (h c).2.2⟩)
    (Cert.ReferenceInIdeal.Value.run (F := Ideal) m' ρ')
  all_goals obtain ⟨e0, e1, e2⟩ := hagree c; rw [e0, e1, e2]
  · exact (Cert.ReferenceInIdeal.Read.val_main_v19_eq _ _ _).trans (Cert.KernelInIdeal.InValue.final4 m c).symm
  · exact (Cert.ReferenceInIdeal.Read.val_main_v22_eq _ _ _).trans (Cert.KernelInIdeal.InValue.final5 m c).symm

end Cert.Proof

end
-- ==== Proof.RefFrames.lean ====
/- The frames of the references of the attention, of the routed experts and of the output projection. -/
module

public import proofs.«01_k».proof.Defs
public import proofs.«01_k».proof.Proof.Gen.ReferenceIdeal.Run
public import proofs.«01_k».proof.Proof.Gen.ReferenceMoeIdeal.Run
public import proofs.«01_k».proof.Proof.Gen.ReferenceOutIdeal.Run

@[expose] public section

noncomputable section

namespace Cert.Proof

open Idealize.ShloMosaic Idealize.ShloMosaic.TcCoe Idealize.SL.Sem

attribute [local instance] Cert.ReferenceIdeal.Gen.facts Cert.ReferenceMoeIdeal.Gen.facts Cert.ReferenceOutIdeal.Gen.facts

/-- The reference of the attention runs, leaves its arguments and declares no semaphore. -/
theorem frame_ReferenceAttn : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the routed experts runs, leaves its arguments and declares no semaphore. -/
theorem frame_ReferenceMoe : Cert.quiescent_ReferenceMoeIdeal := fun m ρ _ =>
  (θ_run Cert.ReferenceMoeIdeal.defs _ _).mono (fun r h => ⟨fun c => (h c).2, sem_eq_zero_of_no_sems (by decide) r.2⟩)
    (Cert.ReferenceMoeIdeal.Value.run (F := Ideal) m ρ)

/-- The reference of the output projection runs, leaves its arguments and declares no semaphore. -/
theorem frame_ReferenceOut : Cert.quiescent_ReferenceOutIdeal := fun m ρ _ =>
  (θ_run Cert.ReferenceOutIdeal.defs _ _).mono (fun r h => ⟨fun c => (h c).2.2.2, sem_eq_zero_of_no_sems (by decide) r.2⟩)
    (Cert.ReferenceOutIdeal.Value.run (F := Ideal) m ρ)

end Cert.Proof

end
-- ==== Proof.Route.lean ====
/- The routing of one token to its two experts: the two greatest of its eight logits, the lower position first among
   equal ones, as a stable sort gives them and as two rounds of a maximum and its least lane give them. -/
module

public import Idealize.ShloMosaic.Lib.IdealHost
public import Idealize.ShloMosaic.Lib.SortFacts
public import Idealize.ShloMosaic.Lib.Pointwise

@[expose] public section

noncomputable section

namespace Cert.Route

open Idealize.ShloMosaic

/-- Position `k` comes before position `k'`: its logit is greater, or equal at a lower position. -/
def lex {n : ℕ} (L : Fin n → EReal) (k k' : Fin n) : Bool := decide (L k' < L k ∨ L k' = L k ∧ k < k')

/-- The stable sort of positions in ascending order by the logits alone is their sort by logit and position. -/
theorem stableSort_lex {n : ℕ} (L : Fin n → EReal) (l : List (Fin n)) (hl : l.Pairwise (· < ·)) :
    stableSort (fun k k' => decide (L k' < L k)) l = stableSort (lex L) l := by
  induction l with
  | nil => rfl
  | cons a l ih =>
    rw [List.pairwise_cons] at hl
    unfold stableSort
    rw [ih hl.2]
    refine insertBefore_congr _ _ a _ fun b hb => ?_
    have h := hl.1 b ((perm_stableSort (lex L) l).mem_iff.mp hb)
    simp only [lex, decide_eq_decide]
    constructor
    · exact Or.inl
    · rintro (h' | ⟨_, h'⟩)
      · exact h'
      · exact absurd h (not_lt.mpr h'.le)

/-- The position that the stable descending sort of the logits puts at place `j`. -/
def sel {n : ℕ} (L : Fin n → EReal) (j : Fin n) : Fin n := sortedFrom (fun k k' => decide (L k' < L k)) j

theorem sel_eq {n : ℕ} (L : Fin n → EReal) : sel L = sortedFrom (lex L) := by
  funext j
  unfold sel sortedFrom sortPositions
  rw [List.get_of_eq (stableSort_lex L _ (List.pairwise_lt_finRange n))]
  rfl

/-- A later place holds nothing that comes before an earlier place's position. -/
theorem sel_order {n : ℕ} (L : Fin n → EReal) (i j : Fin n) (h : i < j) : lex L (sel L j) (sel L i) = false := by
  rw [sel_eq]
  refine sortedFrom_noInversion (lex L) (lex L) ?_ (fun _ _ h => h) ?_ i j h
  · intro a b hab
    simp only [lex, decide_eq_true_eq, decide_eq_false_iff_not, not_or, not_and, not_lt] at *
    rcases hab with hab | ⟨e, hab⟩
    · exact ⟨hab.le, fun e => absurd e hab.ne'⟩
    · exact ⟨e.le, fun _ => hab.le⟩
  · intro a b c hab hbc
    simp only [lex, decide_eq_false_iff_not, not_or, not_and, not_lt] at *
    refine ⟨hab.1.trans hbc.1, fun e => ?_⟩
    have e1 : L a = L b := le_antisymm hab.1 (e ▸ hbc.1)
    exact (hbc.2 (e.trans e1)).trans (hab.2 e1.symm)

theorem sel_injective {n : ℕ} (L : Fin n → EReal) : Function.Injective (sel L) := sortedFrom_injective _

theorem sel_surjective {n : ℕ} (L : Fin n → EReal) : Function.Surjective (sel L) := sortedFrom_surjective _

/-- Every position's logit is at most the first place's, and an equal one stands no lower. -/
theorem first_spec (L : Fin 8 → EReal) (k : Fin 8) : L k ≤ L (sel L 0) ∧ (L k = L (sel L 0) → sel L 0 ≤ k) := by
  obtain ⟨j, rfl⟩ := sel_surjective L k
  rcases Fin.eq_zero_or_eq_succ j with rfl | ⟨i, rfl⟩
  · exact ⟨le_rfl, fun _ => le_rfl⟩
  · have h := sel_order L 0 i.succ (Fin.succ_pos i)
    simp only [lex, decide_eq_false_iff_not, not_or, not_and, not_lt] at h
    exact ⟨h.1, fun e => h.2 e.symm⟩

/-- The same of the second place, among the positions other than the first place's. -/
theorem second_spec (L : Fin 8 → EReal) (k : Fin 8) (hk : k ≠ sel L 0) :
    L k ≤ L (sel L 1) ∧ (L k = L (sel L 1) → sel L 1 ≤ k) := by
  obtain ⟨j, rfl⟩ := sel_surjective L k
  by_cases h1 : j = 1
  · subst h1
    exact ⟨le_rfl, fun _ => le_rfl⟩
  · have h0 : j ≠ 0 := fun e => hk (by rw [e])
    have hlt : (1 : Fin 8) < j := by omega
    have h := sel_order L 1 j hlt
    simp only [lex, decide_eq_false_iff_not, not_or, not_and, not_lt] at h
    exact ⟨h.1, fun e => h.2 e.symm⟩

theorem sel_ne (L : Fin 8 → EReal) : sel L 1 ≠ sel L 0 := fun e => absurd (sel_injective L e) (by decide)

/-- A maximum from minus infinity that is reached and bounds every entry. -/
theorem fold_max_eq {n : ℕ} (f : Fin n → EReal) (a : Fin n) (h : ∀ x, f x ≤ f a) : Finset.fold max ⊥ f Finset.univ = f a := by
  have e : Finset.fold max ⊥ f Finset.univ = Finset.univ.sup f := rfl
  rw [e]
  exact le_antisymm (Finset.sup_le fun x _ => h x) (Finset.le_sup (f := f) (Finset.mem_univ a))

/-- A signed minimum that one entry takes and that no entry changes. -/
theorem fold_minsi_eq {n : ℕ} (f : Fin n → BitVec 32) (a : Fin n) (i : BitVec 32) (hi : IntOp.minsi (f a) i = f a)
    (h : ∀ x, IntOp.minsi (f a) (f x) = f a) : Finset.fold IntOp.minsi i f Finset.univ = f a := by
  have key : ∀ s : Finset (Fin n), IntOp.minsi (f a) (Finset.fold IntOp.minsi i f s) = f a := fun s => by
    induction s using Finset.induction_on with
    | empty => simpa using hi
    | insert x s hx ih =>
      rw [Finset.fold_insert hx, ← Std.Associative.assoc (op := IntOp.minsi), h x, ih]
  rw [← Finset.insert_erase (Finset.mem_univ a), Finset.fold_insert (Finset.notMem_erase a _)]
  exact key _

/-- Of two lane numbers the signed minimum keeps the lower. -/
theorem minsi_lane (a b : ℕ) (ha : a ≤ 128) (hb : b ≤ 128) (h : a ≤ b) :
    IntOp.minsi (BitVec.ofNat 32 a) (BitVec.ofNat 32 b) = BitVec.ofNat 32 a := by
  unfold IntOp.minsi
  have e : ∀ c ≤ 128, (BitVec.ofNat 32 c).toInt = c := fun c hc => by
    rw [BitVec.toInt_eq_toNat_of_lt (by rw [BitVec.toNat_ofNat]; omega), BitVec.toNat_ofNat]; omega
  have := e a ha
  have := e b hb
  first
  | (rw [if_pos]; simp only [BitVec.sle, decide_eq_true_eq]; omega)
  | (split
     · rfl
     · rename_i hn
       simp only [BitVec.slt, BitVec.sle, decide_eq_true_eq] at hn
       have : a = b := by omega
       rw [this])

/-- The 128 lanes that the kernel ranks: eight logits, then minus infinity. -/
def lanes (L : Fin 8 → EReal) (x : Fin 128) : EReal := if h : x.val < 8 then L ⟨x.val, h⟩ else ⊥

/-- A position as a lane. -/
abbrev lane (k : Fin 8) : Fin 128 := ⟨k.val, by omega⟩

theorem lanes_lane (L : Fin 8 → EReal) (k : Fin 8) : lanes L (lane k) = L k := dif_pos k.isLt

/-- A lane with a value other than minus infinity is a position. -/
theorem lane_of_ne (L : Fin 8 → EReal) (x : Fin 128) (h : lanes L x ≠ ⊥) : ∃ k : Fin 8, x = lane k := by
  by_cases hx : x.val < 8
  · exact ⟨⟨x.val, hx⟩, rfl⟩
  · exact absurd (dif_neg hx) h

/-- The greatest lane holds the first place's logit. -/
theorem max_lanes (L : Fin 8 → EReal) : Finset.fold max ⊥ (lanes L) Finset.univ = L (sel L 0) := by
  rw [← lanes_lane L (sel L 0)]
  refine fold_max_eq (lanes L) (lane (sel L 0)) fun x => ?_
  by_cases h : lanes L x = ⊥
  · rw [h]; exact bot_le
  · obtain ⟨k, rfl⟩ := lane_of_ne L x h
    rw [lanes_lane, lanes_lane]
    exact (first_spec L k).1

/-- The least lane that holds a value, `128` standing for the other lanes. -/
theorem least_lane (f : Fin 128 → EReal) (v : EReal) (p : Fin 128) (hp : f p = v) (h : ∀ x, f x = v → p ≤ x) :
    Finset.fold IntOp.minsi 2147483647#32 (fun x : Fin 128 => if f x = v then BitVec.ofNat 32 x.val else 128#32) Finset.univ
      = BitVec.ofNat 32 p.val := by
  have e : (fun x : Fin 128 => if f x = v then BitVec.ofNat 32 x.val else 128#32) p = BitVec.ofNat 32 p.val := if_pos hp
  refine (fold_minsi_eq _ p _ ?_ fun x => ?_).trans e
  · have : ∀ q : Fin 128, IntOp.minsi (BitVec.ofNat 32 q.val) 2147483647#32 = BitVec.ofNat 32 q.val := by decide +kernel
    simp only [if_pos hp]
    exact this p
  · simp only [if_pos hp]
    split
    · rename_i hx
      exact minsi_lane _ _ (by omega) (by omega) (h x hx)
    · exact minsi_lane p.val 128 (by omega) le_rfl (by omega)

/-- The first round: the least lane of the greatest value is the first place's position. -/
theorem least_first (L : Fin 8 → EReal) (hL : ∀ k, L k ≠ ⊥) :
    Finset.fold IntOp.minsi 2147483647#32
      (fun x : Fin 128 => if lanes L x = L (sel L 0) then BitVec.ofNat 32 x.val else 128#32) Finset.univ
      = BitVec.ofNat 32 (sel L 0).val := by
  refine least_lane (lanes L) _ (lane (sel L 0)) (lanes_lane _ _) fun x hx => ?_
  obtain ⟨k, rfl⟩ := lane_of_ne L x (by rw [hx]; exact hL _)
  rw [lanes_lane] at hx
  exact (first_spec L k).2 hx

/-- The lanes of the second round: the first place's lane taken away. -/
def rest (L : Fin 8 → EReal) (x : Fin 128) : EReal := if x = lane (sel L 0) then ⊥ else lanes L x

theorem rest_second (L : Fin 8 → EReal) : rest L (lane (sel L 1)) = L (sel L 1) := by
  unfold rest
  rw [if_neg, lanes_lane]
  intro e
  exact sel_ne L (Fin.ext (Fin.mk.inj e))

theorem rest_cases (L : Fin 8 → EReal) (x : Fin 128) (h : rest L x ≠ ⊥) :
    ∃ k : Fin 8, x = lane k ∧ k ≠ sel L 0 ∧ rest L x = L k := by
  unfold rest at h ⊢
  by_cases e : x = lane (sel L 0)
  · rw [if_pos e] at h; exact absurd rfl h
  · rw [if_neg e] at h ⊢
    obtain ⟨k, rfl⟩ := lane_of_ne L x h
    exact ⟨k, rfl, fun hk => e (by rw [hk]), lanes_lane L k⟩

/-- The greatest lane of the second round holds the second place's logit. -/
theorem max_rest (L : Fin 8 → EReal) : Finset.fold max ⊥ (rest L) Finset.univ = L (sel L 1) := by
  rw [← rest_second L]
  refine fold_max_eq (rest L) (lane (sel L 1)) fun x => ?_
  by_cases h : rest L x = ⊥
  · rw [h]; exact bot_le
  · obtain ⟨k, rfl, hk, e⟩ := rest_cases L x h
    rw [e, rest_second]
    exact (second_spec L k hk).1

/-- The second round's least lane of the greatest value is the second place's position. -/
theorem least_second (L : Fin 8 → EReal) (hL : ∀ k, L k ≠ ⊥) :
    Finset.fold IntOp.minsi 2147483647#32
      (fun x : Fin 128 => if rest L x = L (sel L 1) then BitVec.ofNat 32 x.val else 128#32) Finset.univ
      = BitVec.ofNat 32 (sel L 1).val := by
  refine least_lane (rest L) _ (lane (sel L 1)) (rest_second L) fun x hx => ?_
  obtain ⟨k, rfl, hk, e⟩ := rest_cases L x (by rw [hx]; exact hL _)
  rw [e] at hx
  exact (second_spec L k hk).2 hx

/-- What the second logit weighs beside the first: the exponential of their difference. -/
def ex (L : Fin 8 → EReal) : EReal := Ideal.exp (L (sel L 1) - L (sel L 0))

/-- The weight of expert `k`: the softmax of the two greatest logits at their positions, zero elsewhere. -/
def weight (L : Fin 8 → EReal) (k : Fin 8) : EReal :=
  (if k = sel L 0 then Ideal.div 1 (1 + ex L) else 0) + (if k = sel L 1 then Ideal.div (ex L) (1 + ex L) else 0)

/-- The exponential of a difference of two real numbers is a nonnegative real number. -/
theorem exp_sub_real (a b : EReal) (ha : a ≠ ⊥) (ha' : a ≠ ⊤) (hb : b ≠ ⊥) (hb' : b ≠ ⊤) :
    ∃ r : ℝ, 0 ≤ r ∧ Ideal.exp (a - b) = (r : EReal) := by
  lift a to ℝ using ⟨ha', ha⟩
  lift b to ℝ using ⟨hb', hb⟩
  refine ⟨Real.exp (a - b), (Real.exp_pos _).le, ?_⟩
  rw [← EReal.coe_sub]
  rfl

/-- A nonnegative real number beside one and itself is a nonnegative real number. -/
theorem div_real (a r : ℝ) (ha : 0 ≤ a) (hr : 0 ≤ r) : ∃ g : ℝ, 0 ≤ g ∧ Ideal.div (a : EReal) (1 + (r : EReal)) = (g : EReal) := by
  refine ⟨a * (1 + r)⁻¹, by positivity, ?_⟩
  have h : (1 + (r : EReal)) = ((1 + r : ℝ) : EReal) := by rw [EReal.coe_add]; rfl
  rw [h, Ideal.div, if_neg (by rw [← EReal.coe_zero]; exact fun e => by have := EReal.coe_injective e; linarith),
    ← EReal.coe_inv, ← EReal.coe_mul]

/-- Every weight is a nonnegative real number. -/
theorem weight_real (L : Fin 8 → EReal) (h : ∀ k, L k ≠ ⊥ ∧ L k ≠ ⊤) (k : Fin 8) :
    0 ≤ weight L k ∧ weight L k ≠ ⊤ := by
  obtain ⟨r, hr, e⟩ := exp_sub_real _ _ (h (sel L 1)).1 (h (sel L 1)).2 (h (sel L 0)).1 (h (sel L 0)).2
  obtain ⟨g, hg, eg⟩ := div_real 1 r zero_le_one hr
  obtain ⟨g', hg', eg'⟩ := div_real r r hr hr
  have ew : weight L k = (((if k = sel L 0 then g else 0) + (if k = sel L 1 then g' else 0) : ℝ) : EReal) := by
    unfold weight ex
    rw [e, ← EReal.coe_one, EReal.coe_one, EReal.coe_add]
    congr 1
    · split
      · exact_mod_cast eg
      · rfl
    · split
      · exact eg'
      · rfl
  rw [ew]
  refine ⟨?_, EReal.coe_ne_top _⟩
  rw [← EReal.coe_zero, EReal.coe_le_coe_iff]
  split <;> split <;> linarith

/-- A nonnegative real factor goes into a finite sum of extended reals. -/
theorem mul_sum_of_real {ι : Type} (s : Finset ι) (c : EReal) (h0 : 0 ≤ c) (h1 : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

end Cert.Route

end
-- ==== Proof.MoeRoute.lean ====
/- What the expert kernel's routing step computes of a block of logits: the dense weights of the two chosen experts. -/
module

public import proofs.«01_k».proof.Proof.Gen.KernelMoeIdeal.Value
public import proofs.«01_k».proof.Proof.Route
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.KernelMoeIdeal.MoeValue

open Cert.KernelMoeIdeal Cert.KernelMoeIdeal.Gen

/-- The eight logits of a row of a block. -/
def logits (v : Vec Ideal S512x128 .f32) (r : Fin 512) (k : Fin 8) : EReal := v (ix2 r (Route.lane k))

/-- The lane numbers the routing step compares with. -/
abbrev laneNos : IVec S512x128 32 := iota Kind.tc S512x128 32 [1] iota_S512x128_d1_w32

/-- The word the masked lanes get is minus infinity. -/
theorem negInf : Ideal.ofBits FTy.f32 4286578688#32 = ⊥ := by decide +kernel

/-- A lane number is below eight as a word exactly when it is as a number. -/
theorem slt_eight : ∀ x : Fin 128, IntOp.cmpi CmpIPredicate.slt (BitVec.ofNat 32 x.val) 8#32 = BitVec.ofBool (decide (x.val < 8)) := by
  decide +kernel

/-- Two lane numbers are equal as words exactly when they are as numbers. -/
theorem eq_word (a b : ℕ) (ha : a < 128) (hb : b < 128) : IntOp.cmpi CmpIPredicate.eq (BitVec.ofNat 32 a) (BitVec.ofNat 32 b) = BitVec.ofBool (decide (a = b)) := by
  have e : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [IntOp.cmpi]
  · have e' : (BitVec.ofNat 32 a == BitVec.ofNat 32 b) = false := beq_eq_false_iff_ne.mpr fun w => h (e.mp w)
    simp [IntOp.cmpi, h, e']

/-- A choice by a decided bit. -/
theorem select_ofBool {α : Type} (p : Prop) [Decidable p] (a b : α) : Scalar.select (BitVec.ofBool (decide p)) a b = if p then a else b := by
  by_cases h : p <;> simp [Scalar.select, h]

/-- The masked logits of a row. -/
theorem pay3_apply (v : Vec Ideal S512x128 .f32) (r : Fin 512) (k : Fin 128) : k0_pay3 (F := Ideal) laneNos v (ix2 r k) = Route.lanes (logits v r) k := by
  pointwise [k0_pay3]
  rw [slt_eight, select_ofBool, negInf]
  unfold Route.lanes logits
  by_cases h : k.val < 8
  · rw [if_pos h, dif_pos h]
  · rw [if_neg h, dif_neg h]

/-- The greatest logit of a row. -/
theorem pay4_apply (v : Vec Ideal S512x128 .f32) (r : Fin 512) : k0_pay4 (F := Ideal) laneNos v (ix2 r 0) = logits v r (Route.sel (logits v r) 0) := by
  pointwise [k0_pay4]
  rw [negInf]
  simp only [pay3_apply]
  exact Route.max_lanes _

/-- The lane of the first expert. -/
theorem pay5_apply (v : Vec Ideal S512x128 .f32) (r : Fin 512) (h : ∀ k, logits v r k ≠ ⊥) :
    k0_pay5 (F := Ideal) laneNos v (ix2 r 0) = BitVec.ofNat 32 (Route.sel (logits v r) 0).val := by
  pointwise [k0_pay5]
  simp only [pay3_apply, pay4_apply]
  exact Route.least_first _ h

/-- The masked logits of a row without the first expert's. -/
theorem pay6_apply (v : Vec Ideal S512x128 .f32) (r : Fin 512) (h : ∀ k, logits v r k ≠ ⊥) (k : Fin 128) :
    k0_pay6 (F := Ideal) laneNos v (ix2 r k) = Route.rest (logits v r) k := by
  pointwise [k0_pay6]
  rw [pay5_apply v r h, pay3_apply, eq_word _ _ k.isLt (by omega), select_ofBool, negInf]
  unfold Route.rest
  simp only [Fin.ext_iff]

/-- The second greatest logit of a row. -/
theorem pay7_apply (v : Vec Ideal S512x128 .f32) (r : Fin 512) (h : ∀ k, logits v r k ≠ ⊥) :
    k0_pay7 (F := Ideal) laneNos v (ix2 r 0) = logits v r (Route.sel (logits v r) 1) := by
  pointwise [k0_pay7]
  rw [negInf]
  simp only [pay6_apply v r h]
  exact Route.max_rest _

/-- The second expert's unnormalized weight. -/
theorem pay8_apply (v : Vec Ideal S512x128 .f32) (r : Fin 512) (h : ∀ k, logits v r k ≠ ⊥) :
    k0_pay8 (F := Ideal) laneNos v (ix2 r 0) = Route.ex (logits v r) := by
  pointwise [k0_pay8]
  rw [pay7_apply v r h, pay4_apply]
  rfl

/-- Whether a lane is the second expert's. -/
theorem pay10_apply (v : Vec Ideal S512x128 .f32) (r : Fin 512) (h : ∀ k, logits v r k ≠ ⊥) (k : Fin 128) :
    k0_pay10 (F := Ideal) laneNos v (ix2 r k) = BitVec.ofBool (decide (k.val = (Route.sel (logits v r) 1).val)) := by
  pointwise [k0_pay10]
  simp only [pay6_apply v r h, pay7_apply v r h]
  rw [← eq_word _ _ k.isLt (by omega)]
  exact congrArg _ (Route.least_second _ h)

/-- The dense weights of a block of logits, as the routing step leaves them. -/
def dense (v : Vec Ideal S512x128 .f32) : Vec Ideal S512x128 .f32 :=
  k0_pay12 (k0_pay9 laneNos v) (k0_pay10 laneNos v) (FloatOps.ofBits FTy.f32 0#32) (k0_pay11 laneNos v)

/-- The dense weight of an expert's lane is the weight of that expert. -/
theorem dense_apply (v : Vec Ideal S512x128 .f32) (r : Fin 512) (h : ∀ k, logits v r k ≠ ⊥) (k : Fin 8) :
    dense v (ix2 r (Route.lane k)) = Route.weight (logits v r) k := by
  unfold dense
  pointwise [k0_pay12, k0_pay9, k0_pay11]
  rw [pay10_apply v r h, pay5_apply v r h, pay8_apply v r h, eq_word _ _ (Route.lane k).isLt (by omega), select_ofBool, select_ofBool]
  unfold Route.weight
  simp only [Fin.ext_iff]

/-- The lane the sum over lanes keeps. -/
theorem sum_select (f : Fin 128 → EReal) (e : Fin 8) :
    (∑ x : Fin 128, Scalar.select (IntOp.cmpi CmpIPredicate.eq (BitVec.ofNat 32 x.val) (BitVec.ofNat 32 e.val)) (f x) 0) = f (Route.lane e) := by
  rw [Finset.sum_eq_single (Route.lane e)]
  · rw [eq_word _ _ (by omega) (by omega), select_ofBool]; exact if_pos rfl
  · intro b _ hb
    rw [eq_word _ _ b.isLt (by omega), select_ofBool]
    exact if_neg fun e' => hb (Fin.ext e')
  · intro h; exact absurd (Finset.mem_univ _) h

end Cert.KernelMoeIdeal.MoeValue

end
-- ==== Proof.MoeValue.lean ====
/- The mixture of experts: what the kernel leaves in its result array, element by element. -/
module

public import proofs.«01_k».proof.Proof.MoeRoute
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMoeIdeal.MoeValue

open Cert.KernelMoeIdeal Cert.KernelMoeIdeal.Gen

variable (m : (ℓ : Loc nD τ sig) → Buf (Elt Ideal) ℓ)

/-- The block index of every window at every grid point, and the grid point's expert. -/
theorem idx : ∀ t : Fin cfg0.N, win0_0.index t = ![t.val / 8, 0] ∧ win0_1.index t = ![t.val / 8, 0] ∧ win0_2.index t = ![t.val / 8, 0]
    ∧ win0_3.index t = ![t.val % 8, 0, 0] ∧ win0_4.index t = ![t.val % 8, 0, 0] ∧ win0_5.index t = ![t.val % 8, 0, 0] ∧ win0_6.index t = ![0, 0]
    ∧ win0_7.index t = ![t.val / 8, 0] ∧ (grid0.coords t 1).val = t.val % 8 ∧ t.val < 256 :=
  (by decide +kernel : ∀ t : Fin grid0.N, _)

/-- One hidden element of an expert: the gated product of its two projections. -/
def hiddenUnit (h : Fin 1024 → EReal) (wg wu : Fin 1024 → EReal) : EReal :=
  (∑ k, h k * wg k) * Ideal.div 1 (1 + Ideal.exp (0 - ∑ k, h k * wg k)) * ∑ k, h k * wu k

/-- One output element of expert `e` on a row. -/
def expert (h : Fin 1024 → EReal) (wg wu : Vec Ideal S8x1024x1408 .bf16) (wd : Vec Ideal S8x1408x1024 .bf16) (e : Fin 8) (d : Fin 1024) : EReal :=
  ∑ f : Fin 1408, hiddenUnit h (fun k => wg (ix3 e k f)) (fun k => wu (ix3 e k f)) * wd (ix3 e f d)

/-- The part of an output element that one grid point adds, from its blocks and the dense weights. -/
def part (C : Vec Ideal S512x128 .f32) (h : Vec Ideal S512x1024 .bf16) (wg wu : Vec Ideal S1x1024x1408 .bf16) (wd : Vec Ideal S1x1408x1024 .bf16) (e : Fin 8)
    (r : Fin 512) (d : Fin 1024) : EReal :=
  ∑ f : Fin 1408, (C (ix2 r (Route.lane e)) * hiddenUnit (fun k => h (ix2 r k)) (fun k => wg (ix3 0 k f)) (fun k => wu (ix3 0 k f))) * wd (ix3 0 f d)

/-- The term the first point of a run leaves in the accumulator. -/
theorem acc_A (c : Dev nD) (t : Fin cfg0.N) (h0 : t.val % 8 = 0) (r : Fin 512) (d : Fin 1024) :
    (outsAt0 m c t.val t.isLt).2.1 (ix2 r d)
      = part (dense (iblk m c 2 t)) (iblk m c 0 t) (iblk m c 3 t) (iblk m c 4 t) (iblk m c 5 t) ⟨t.val % 8, by omega⟩ r d := by
  have h1 : ¬ t.val % 8 = 7 := by omega
  rw [outsAt0_A m c t h0 h1]
  dsimp only
  frame_out
  have e : k0_pay12 (F := Ideal) (k0_pay9 laneNos (iblk m c 2 t)) (k0_pay10 laneNos (iblk m c 2 t)) (FloatOps.ofBits FTy.f32 0#32) (k0_pay11 laneNos (iblk m c 2 t))
    = dense (iblk m c 2 t) := rfl
  rw [e]
  pointwise [k0_pay1, k0_pay15, k0_pay14, k0_pay13]
  rw [(idx t).2.2.2.2.2.2.2.2.1]
  simp only [sum_select (fun x => _) ⟨t.val % 8, by omega⟩]
  rfl

/-- What a later point of a run leaves in the accumulator. -/
theorem acc_B (c : Dev nD) (t : Fin cfg0.N) (h0 : ¬ t.val % 8 = 0) (h1 : ¬ t.val % 8 = 7) (r : Fin 512) (d : Fin 1024) :
    (outsAt0 m c t.val t.isLt).2.1 (ix2 r d)
      = (outsAt0 m c (t.val - 1) (Nat.lt_of_le_of_lt (Nat.sub_le _ _) t.isLt)).2.1 (ix2 r d)
        + part (outsAt0 m c (t.val - 1) (Nat.lt_of_le_of_lt (Nat.sub_le _ _) t.isLt)).2.2 (iblk m c 0 t) (iblk m c 3 t) (iblk m c 4 t) (iblk m c 5 t) ⟨t.val % 8, by omega⟩ r d := by
  rw [outsAt0_B m c t h0 h1]
  dsimp only
  frame_out
  simp only [read_unread_whole]
  pointwise [k0_pay1, k0_pay15, k0_pay14]
  rw [(idx t).2.2.2.2.2.2.2.2.1]
  simp only [sum_select (fun x => _) ⟨t.val % 8, by omega⟩]
  rfl

/-- What the last point of a run leaves in the accumulator. -/
theorem acc_C (c : Dev nD) (t : Fin cfg0.N) (h0 : ¬ t.val % 8 = 0) (h1 : t.val % 8 = 7) (r : Fin 512) (d : Fin 1024) :
    (outsAt0 m c t.val t.isLt).2.1 (ix2 r d)
      = (outsAt0 m c (t.val - 1) (Nat.lt_of_le_of_lt (Nat.sub_le _ _) t.isLt)).2.1 (ix2 r d)
        + part (outsAt0 m c (t.val - 1) (Nat.lt_of_le_of_lt (Nat.sub_le _ _) t.isLt)).2.2 (iblk m c 0 t) (iblk m c 3 t) (iblk m c 4 t) (iblk m c 5 t) ⟨t.val % 8, by omega⟩ r d := by
  rw [outsAt0_C m c t h0 h1]
  dsimp only
  frame_out
  simp only [read_unread_whole]
  pointwise [k0_pay1, k0_pay15, k0_pay14]
  rw [(idx t).2.2.2.2.2.2.2.2.1]
  simp only [sum_select (fun x => _) ⟨t.val % 8, by omega⟩]
  rfl

/-- Element `k` of a normalized row: the row's element times the reciprocal root of its mean square, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- A normalized row of the sum of two blocks. -/
def normedSum (x y : Vec Ideal S512x1024 .f32) (g : Vec Ideal S1x1024 .f32) (r : Fin 512) (d : Fin 1024) : EReal :=
  normed (fun k => x (ix2 r k) + y (ix2 r k)) (fun k => g (ix2 0 k)) d

/-- What the last point of a run leaves in the output block. -/
theorem out_C (c : Dev nD) (t : Fin cfg0.N) (h1 : t.val % 8 = 7) (r : Fin 512) (d : Fin 1024) :
    (outsAt0 m c t.val t.isLt).1 (ix2 r d)
      = normedSum (iblk m c 1 t) (outsAt0 m c t.val t.isLt).2.1 (iblk m c 6 t) r d := by
  have h0 : ¬ t.val % 8 = 0 := by omega
  rw [outsAt0_C m c t h0 h1]
  dsimp only
  frame_out
  simp only [read_unread_whole]
  pointwise [k0_pay2]
  rfl

/-- The dense weights the first point of a run leaves. -/
theorem comb_A (c : Dev nD) (t : Fin cfg0.N) (h0 : t.val % 8 = 0) : (outsAt0 m c t.val t.isLt).2.2 = dense (iblk m c 2 t) := by
  have h1 : ¬ t.val % 8 = 7 := by omega
  rw [outsAt0_A m c t h0 h1]
  dsimp only
  frame_out
  rfl

/-- Every later point of a run keeps them. -/
theorem comb_step (c : Dev nD) (t : Fin cfg0.N) (h0 : ¬ t.val % 8 = 0) :
    (outsAt0 m c t.val t.isLt).2.2 = (outsAt0 m c (t.val - 1) (Nat.lt_of_le_of_lt (Nat.sub_le _ _) t.isLt)).2.2 := by
  by_cases h1 : t.val % 8 = 7
  · rw [outsAt0_C m c t h0 h1]; rfl
  · rw [outsAt0_B m c t h0 h1]; rfl

/-- The eight logits of a token. -/
def rowLogits (lg : Vec Ideal S16384x128 .f32) (n : Fin 16384) (k : Fin 8) : EReal := lg (ix2 n (Route.lane k))

/-- A block of hidden states, read from the argument array. -/
theorem states (c : Dev nD) (t : Fin cfg0.N) (r : Fin 512) (k : Fin 1024) :
    iblk m c 0 t (ix2 r k) = m ((c : Thread nD τ).loc main_arg0) (ix2 (⟨t.val / 8 * 512 + r.val, by have := idx t; omega⟩ : Fin 16384) k) := by
  blk_simp [iblk]
  blk_ext [iblk, V, idx t]

/-- A block of the residual stream, read from the argument array. -/
theorem residual (c : Dev nD) (t : Fin cfg0.N) (r : Fin 512) (k : Fin 1024) :
    iblk m c 1 t (ix2 r k) = m ((c : Thread nD τ).loc main_arg1) (ix2 (⟨t.val / 8 * 512 + r.val, by have := idx t; omega⟩ : Fin 16384) k) := by
  blk_simp [iblk]
  blk_ext [iblk, V, idx t]

/-- A block of logits, read from the argument array. -/
theorem routing (c : Dev nD) (t : Fin cfg0.N) (r : Fin 512) (k : Fin 128) :
    iblk m c 2 t (ix2 r k) = m ((c : Thread nD τ).loc main_arg2) (ix2 (⟨t.val / 8 * 512 + r.val, by have := idx t; omega⟩ : Fin 16384) k) := by
  blk_simp [iblk]
  blk_ext [iblk, V, idx t]

/-- A block of the gate weights, read from the argument array. -/
theorem gates (c : Dev nD) (t : Fin cfg0.N) (k : Fin 1024) (f : Fin 1408) :
    iblk m c 3 t (ix3 (0 : Fin 1) k f) = m ((c : Thread nD τ).loc main_arg3) (ix3 (⟨t.val % 8, by omega⟩ : Fin 8) k f) := by
  blk_simp [iblk]
  blk_ext [iblk, V, idx t]

/-- A block of the up weights, read from the argument array. -/
theorem ups (c : Dev nD) (t : Fin cfg0.N) (k : Fin 1024) (f : Fin 1408) :
    iblk m c 4 t (ix3 (0 : Fin 1) k f) = m ((c : Thread nD τ).loc main_arg4) (ix3 (⟨t.val % 8, by omega⟩ : Fin 8) k f) := by
  blk_simp [iblk]
  blk_ext [iblk, V, idx t]

/-- A block of the down weights, read from the argument array. -/
theorem downs (c : Dev nD) (t : Fin cfg0.N) (f : Fin 1408) (k : Fin 1024) :
    iblk m c 5 t (ix3 (0 : Fin 1) f k) = m ((c : Thread nD τ).loc main_arg5) (ix3 (⟨t.val % 8, by omega⟩ : Fin 8) f k) := by
  blk_simp [iblk]
  blk_ext [iblk, V, idx t]

/-- The gain, read from the argument array. -/
theorem gain (c : Dev nD) (t : Fin cfg0.N) (k : Fin 1024) :
    iblk m c 6 t (ix2 (0 : Fin 1) k) = m ((c : Thread nD τ).loc main_arg6) (ix1 k) := by
  blk_simp [iblk]
  entry_read
  pointwise
  blk_ext [idx t]

/-- What one token's expert adds to its output, weighted. -/
def weighted (c : Dev nD) (n : Fin 16384) (e : Fin 8) (d : Fin 1024) : EReal :=
  Route.weight (rowLogits (m ((c : Thread nD τ).loc main_arg2)) n) e
    * expert (fun k => m ((c : Thread nD τ).loc main_arg0) (ix2 n k)) (m ((c : Thread nD τ).loc main_arg3)) (m ((c : Thread nD τ).loc main_arg4))
        (m ((c : Thread nD τ).loc main_arg5)) e d

/-- The logits are finite. -/
def FiniteLogits (c : Dev nD) : Prop :=
  ∀ n k, rowLogits (m ((c : Thread nD τ).loc main_arg2)) n k ≠ ⊥ ∧ rowLogits (m ((c : Thread nD τ).loc main_arg2)) n k ≠ ⊤

/-- The row a grid point's block row is. -/
def row (t : Fin cfg0.N) (r : Fin 512) : Fin 16384 := ⟨t.val / 8 * 512 + r.val, by have := idx t; omega⟩

/-- A block's logits are the token's. -/
theorem logits_row (c : Dev nD) (t : Fin cfg0.N) (r : Fin 512) : logits (iblk m c 2 t) r = rowLogits (m ((c : Thread nD τ).loc main_arg2)) (row t r) :=
  funext fun k => routing m c t r (Route.lane k)

/-- Every point of a run holds the token's weights. -/
theorem comb (c : Dev nD) (hf : FiniteLogits m c) (t : Fin cfg0.N) (r : Fin 512) (e : Fin 8) :
    (outsAt0 m c t.val t.isLt).2.2 (ix2 r (Route.lane e)) = Route.weight (rowLogits (m ((c : Thread nD τ).loc main_arg2)) (row t r)) e := by
  have h := Pipeline.eq_of_write_hold (fun n hn => (outsAt0 m c n hn).2.2) 8 (fun t => dense (iblk m c 2 t)) (fun t h => comb_A m c t h)
    (fun t h => comb_step m c t h) t
  have hr : row ⟨8 * (t.val / 8), by omega⟩ r = row t r := Fin.ext (by unfold row; dsimp only; omega)
  refine (congrFun h _).trans ?_
  rw [dense_apply, logits_row, hr]
  intro k
  rw [logits_row]
  exact (hf _ k).1

/-- A grid point's part is the weighted expert. -/
theorem part_eq (c : Dev nD) (hf : FiniteLogits m c) (t : Fin cfg0.N) (C : Vec Ideal S512x128 .f32) (r : Fin 512) (d : Fin 1024)
    (hC : ∀ e, C (ix2 r (Route.lane e)) = Route.weight (rowLogits (m ((c : Thread nD τ).loc main_arg2)) (row t r)) e) :
    part C (iblk m c 0 t) (iblk m c 3 t) (iblk m c 4 t) (iblk m c 5 t) ⟨t.val % 8, by omega⟩ r d = weighted m c (row t r) ⟨t.val % 8, by omega⟩ d := by
  obtain ⟨w0, w1⟩ := Route.weight_real _ (hf (row t r)) ⟨t.val % 8, by omega⟩
  unfold part weighted expert
  rw [Route.mul_sum_of_real _ _ w0 w1]
  refine Finset.sum_congr rfl fun f _ => ?_
  rw [hC, mul_assoc]
  simp only [states, gates, ups, downs]
  rfl

/-- The accumulator at the last point of a run: the sum of the eight weighted experts. -/
theorem acc (c : Dev nD) (hf : FiniteLogits m c) (t : Fin cfg0.N) (h1 : t.val % 8 = 7) (r : Fin 512) (d : Fin 1024) :
    (outsAt0 m c t.val t.isLt).2.1 (ix2 r d) = ∑ e : Fin 8, weighted m c (row t r) e d := by
  have h := Pipeline.eq_sum_fin_of_reset_step_apply_of_flush (fun n hn (i : Fin 512 × Fin 1024) => (outsAt0 m c n hn).2.1 (ix2 i.1 i.2)) 8 (fun _ => (0 : EReal))
    (fun t i => weighted m c (row t i.1) ⟨t.val % 8, by omega⟩ i.2) (fun t h i => ?_) (fun t h i => ?_) t h1 (r, d)
  · refine h.trans ((zero_add _).trans (Finset.sum_congr rfl fun s _ => ?_))
    have e1 : row ⟨8 * (t.val / 8) + s.val, Pipeline.run_point_lt_of_flush t h1 s⟩ r = row t r := Fin.ext (by unfold row; dsimp only; omega)
    have e2 : (⟨(8 * (t.val / 8) + s.val) % 8, by omega⟩ : Fin 8) = s := Fin.ext (by dsimp only; omega)
    dsimp only
    rw [e1, e2]
  · refine (acc_A m c t h _ _).trans (Eq.trans ?_ (zero_add _).symm)
    refine part_eq m c hf t _ _ _ fun e => ?_
    rw [← comb_A m c t h]
    exact comb m c hf t _ e
  · have hp : ∀ e, (outsAt0 m c (t.val - 1) (Nat.lt_of_le_of_lt (Nat.sub_le _ _) t.isLt)).2.2 (ix2 i.1 (Route.lane e))
        = Route.weight (rowLogits (m ((c : Thread nD τ).loc main_arg2)) (row t i.1)) e := fun e => by
      rw [← comb_step m c t h]
      exact comb m c hf t _ e
    rw [← part_eq m c hf t _ i.1 i.2 hp]
    by_cases h7 : t.val % 8 = 7
    · exact acc_C m c t h h7 _ _
    · exact acc_B m c t h h7 _ _

/-- An output element of the layer's end, from the residual stream, the weighted experts and the gain. -/
def ending (x : Vec Ideal S16384x1024 .f32) (w : Fin 8 → Fin 1024 → EReal) (g : Vec Ideal S1024 .f32) (n : Fin 16384) (d : Fin 1024) : EReal :=
  normed (fun k => x (ix2 n k) + ∑ e : Fin 8, w e k) (fun k => g (ix1 k)) d

/-- An output element of the whole layer part, from the argument arrays. -/
def moe (c : Dev nD) (n : Fin 16384) (d : Fin 1024) : EReal :=
  ending (m ((c : Thread nD τ).loc main_arg1)) (weighted m c n) (m ((c : Thread nD τ).loc main_arg6)) n d

/-- The result array, element by element. -/
theorem final (c : Dev nD) (hf : FiniteLogits m c) (X : Vec Ideal S16384x1024 .f32) (hX : ∀ n d, X (ix2 n d) = moe m c n d) :
    (dats m 0 c).arrAt 7 cfg0.N = X := by
  refine (dats m 0 c).arrAt_eq_of_covers 7 _ (by decide +kernel) fun t ht y => ?_
  have h7 : t.val % 8 = 7 := (flush0_7 t).mp ht
  blk_simp
  rw [after0_7]
  idx_vars y
  rw [out_C m c t h7]
  have h := idx t
  have e : ((cfg0.win 7).blk t).view.emb (ix2 y0 y1) = ix2 (row t y0) y1 := by unfold row; blk_ext [iblk, V, idx t]
  rw [e, hX]
  unfold normedSum moe ending
  simp only [acc m c hf t h7, residual, gain]
  rfl

end Cert.KernelMoeIdeal.MoeValue

end
-- ==== Proof.MoeRef.lean ====
/- The mixture of experts: what the reference computes, element by element. -/
module

public import proofs.«01_k».proof.Proof.Gen.ReferenceMoeIdeal.Read
public import proofs.«01_k».proof.Proof.MoeValue

@[expose] public section

set_option maxRecDepth 16384

noncomputable section

open Idealize.ShloMosaic Idealize.ShloMosaic.TcCoe Idealize.SL.Sem

namespace Cert.ReferenceMoeIdeal.MoeRef

open Cert.ReferenceMoeIdeal Cert.ReferenceMoeIdeal.Gen Cert.ReferenceMoeIdeal.Read
open Cert.KernelMoeIdeal.MoeValue (expert hiddenUnit rowLogits ending normed eq_word negInf)

/-- The two greatest logits come in the order `Route.sel` names. -/
theorem greater (a b : EReal) : (FloatOps.cmpfTotal (F := Ideal) (φ := .f32) .gt a b == 1#1) = decide (b < a) := by
  show (BitVec.ofBool (decide (b < a)) == 1#1) = decide (b < a)
  by_cases h : b < a <;> simp [h]

/-- A row of the operand, moved along its second axis. -/
theorem along_row (n : Fin 16384) (k p : Fin 8) : Shape.Idx.along (s := S16384x8) (ix2 n k) 1 p = ix2 n p := by
  funext a
  match a with
  | 0 => rfl
  | 1 => rfl

/-- The sort by the greater logit, read in a row: values and positions. -/
theorem sorted {β : Type} (x : Vec Ideal S16384x8 .f32) (y : S16384x8.Idx → β) (n : Fin 16384) (k : Fin 8) :
    (Host.sort2 S16384x8 1 (fun l r => FloatOps.cmpfTotal (F := Ideal) (φ := .f32) .gt l.1 r.1) x y).1 (ix2 n k) = x (ix2 n (Route.sel (fun k => x (ix2 n k)) k))
      ∧ (Host.sort2 S16384x8 1 (fun l r => FloatOps.cmpfTotal (F := Ideal) (φ := .f32) .gt l.1 r.1) x y).2 (ix2 n k) = y (ix2 n (Route.sel (fun k => x (ix2 n k)) k)) := by
  unfold Host.sort2
  rw [dif_pos (by decide : 1 < S16384x8.rank)]
  have e : sortedFrom (fun k' k'' => FloatOps.cmpfTotal (F := Ideal) (φ := .f32) .gt (x (Shape.Idx.along (s := S16384x8) (ix2 n k) 1 k')) (x (Shape.Idx.along (s := S16384x8) (ix2 n k) 1 k'')) == 1#1) k
      = Route.sel (fun k => x (ix2 n k)) k := by
    unfold Route.sel
    refine congrArg (fun f => sortedFrom f k) (funext fun a => funext fun b => ?_)
    exact (congrArg₂ (fun u v => FloatOps.cmpfTotal (F := Ideal) (φ := .f32) .gt (x u) (x v) == 1#1) (along_row n k a) (along_row n k b)).trans (greater _ _)
  exact ⟨congrArg x ((along_row n k _).trans (congrArg _ e)), congrArg y ((along_row n k _).trans (congrArg _ e))⟩

/-- The values the top-two choice returns. -/
theorem topValues (x : Vec Ideal S16384x8 .f32) (n : Fin 16384) (k : Fin 2) :
    (Host.topK S16384x2 1 (FloatOps.cmpfTotal (F := Ideal) (φ := .f32) .gt) x sliceFits_S16384x8_S16384x2).1 (ix2 n k)
      = x (ix2 n (Route.sel (fun k => x (ix2 n k)) (k.castLE (by decide)))) := by
  refine Eq.trans ?_ (sorted x (fun i => if hd : 1 < S16384x8.rank then iotaInDim S16384x8 32 ⟨1, hd⟩ i else 0#32) n (k.castLE (by decide))).1
  unfold Host.topK
  dsimp only
  exact extractStridedSlice_apply _ _ _ _ _ (fun a => match a with | 0 => (Nat.zero_add _).symm | 1 => (Nat.zero_add _).symm)

/-- The positions the top-two choice returns. -/
theorem topPositions (x : Vec Ideal S16384x8 .f32) (n : Fin 16384) (k : Fin 2) :
    (Host.topK S16384x2 1 (FloatOps.cmpfTotal (F := Ideal) (φ := .f32) .gt) x sliceFits_S16384x8_S16384x2).2 (ix2 n k)
      = BitVec.ofNat 32 (Route.sel (fun k => x (ix2 n k)) (k.castLE (by decide))).val := by
  refine Eq.trans ?_ (sorted x (fun i => if hd : 1 < S16384x8.rank then iotaInDim S16384x8 32 ⟨1, hd⟩ i else 0#32) n (k.castLE (by decide))).2
  unfold Host.topK
  dsimp only
  exact extractStridedSlice_apply _ _ _ _ _ (fun a => match a with | 0 => (Nat.zero_add _).symm | 1 => (Nat.zero_add _).symm)

/-- A decided bit as a number, times a number. -/
theorem bit_mul (p : Prop) [Decidable p] (x : EReal) : FloatOps.uitofp (F := Ideal) FTy.f32 (BitVec.ofBool (decide p)) * x = if p then x else 0 := by
  by_cases h : p
  · rw [if_pos h, decide_eq_true h]
    refine Eq.trans (congrArg (· * x) (?_ : _ = (1 : EReal))) (one_mul x)
    show (((1 : ℕ) : ℝ) : EReal) = 1
    norm_num
  · rw [if_neg h, decide_eq_false h]
    refine Eq.trans (congrArg (· * x) (?_ : _ = (0 : EReal))) (zero_mul x)
    show (((0 : ℕ) : ℝ) : EReal) = 0
    norm_num

/-- The logits the choice is made over. -/
theorem chosen (x2 : Vec Ideal S16384x128 .f32) (n : Fin 16384) : (fun k => val_main_v4 (F := Ideal) x2 (ix2 n k)) = rowLogits x2 n := by
  funext k
  pointwise [val_main_v4]
  rfl

/-- The weight of an expert as the reference combines it. -/
theorem combine (x2 : Vec Ideal S16384x128 .f32) (n : Fin 16384) (h : ∀ k, rowLogits x2 n k ≠ ⊥ ∧ rowLogits x2 n k ≠ ⊤) (k : Fin 8) :
    val_main_v20 (F := Ideal) x2 (ix2 n k) = Route.weight (rowLogits x2 n) k := by
  have hv : ∀ j, val_main_values (F := Ideal) x2 (ix2 n j) = rowLogits x2 n (Route.sel (rowLogits x2 n) (j.castLE (by decide))) := fun j => by
    rw [← chosen x2 n]; exact topValues _ n j
  have hi : ∀ j, val_main_indices (F := Ideal) x2 (ix2 n j) = BitVec.ofNat 32 (Route.sel (rowLogits x2 n) (j.castLE (by decide))).val := fun j => by
    rw [← chosen x2 n]; exact topPositions _ n j
  pointwise [val_main_v20, val_main_v19, val_main_v18, val_main_v17, val_main_v16, val_main_v15, val_main_v14, val_main_v13, val_main_v12, val_main_v11, val_main_v10,
    val_main_v9, val_main_v8, val_main_v7, val_main_v6, val_main_v5, val_main_cst, val_main_cst_0, val_main_cst_1, val_main_cst_2, val_main_call0_v4, val_main_call0_v3,
    val_main_call0_v2, val_main_call0_v1, val_main_call0_v0]
  simp only [hv, hi, negInf, Fin.sum_univ_two]
  have hM : Finset.fold max ⊥ (fun j : Fin 2 => rowLogits x2 n (Route.sel (rowLogits x2 n) (j.castLE (by decide)))) Finset.univ
      = rowLogits x2 n (Route.sel (rowLogits x2 n) 0) := Route.fold_max_eq _ 0 fun j => (Route.first_spec _ _).1
  have h1 : Ideal.exp (rowLogits x2 n (Route.sel (rowLogits x2 n) 0) - rowLogits x2 n (Route.sel (rowLogits x2 n) 0)) = 1 := by
    rw [EReal.sub_self (h _).2 (h _).1]
    exact (congrArg (fun r : ℝ => (r : EReal)) Real.exp_zero).trans EReal.coe_one
  simp only [hM, bot_le, max_eq_right]
  have c0 : Fin.castLE (by decide : 2 ≤ 8) (0 : Fin 2) = 0 := rfl
  have c1 : Fin.castLE (by decide : 2 ≤ 8) (1 : Fin 2) = 1 := rfl
  rw [c0, c1, h1, eq_word _ _ (by omega) (by omega), eq_word _ _ (by omega) (by omega), bit_mul, bit_mul]
  unfold Route.weight Route.ex
  simp only [Fin.ext_iff, @eq_comm ℕ k.val]

/-- The sum of the weighted experts, in the reference's order. -/
theorem experts (x0 : Vec Ideal S16384x1024 .bf16) (x2 : Vec Ideal S16384x128 .f32) (x3 x4 : Vec Ideal S8x1024x1408 .bf16) (x5 : Vec Ideal S8x1408x1024 .bf16)
    (n : Fin 16384) (d : Fin 1024) :
    val_main_v141 (F := Ideal) x0 x2 x3 x4 x5 (ix2 n d)
      = ∑ e : Fin 8, val_main_v20 (F := Ideal) x2 (ix2 n e) * expert (fun k => x0 (ix2 n k)) x3 x4 x5 e d := by
  pointwise [val_main_v0, val_main_v1, val_main_v2, val_main_v3, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141,
    val_main_call1_v0, val_main_call1_v1, val_main_call1_v2, val_main_call1_v3, val_main_call1_v4, val_main_call1_v5, val_main_call2_v0, val_main_call2_v1, val_main_call2_v2, val_main_call2_v3, val_main_call2_v4, val_main_call2_v5, val_main_call3_v0, val_main_call3_v1, val_main_call3_v2, val_main_call3_v3, val_main_call3_v4, val_main_call3_v5, val_main_call4_v0, val_main_call4_v1, val_main_call4_v2, val_main_call4_v3, val_main_call4_v4, val_main_call4_v5, val_main_call5_v0, val_main_call5_v1, val_main_call5_v2, val_main_call5_v3, val_main_call5_v4, val_main_call5_v5, val_main_call6_v0, val_main_call6_v1, val_main_call6_v2, val_main_call6_v3, val_main_call6_v4, val_main_call6_v5, val_main_call7_v0, val_main_call7_v1, val_main_call7_v2, val_main_call7_v3, val_main_call7_v4, val_main_call7_v5, val_main_call8_v0, val_main_call8_v1, val_main_call8_v2, val_main_call8_v3, val_main_call8_v4, val_main_call8_v5,
    val_main_call1_cst, val_main_call1_cst_0, val_main_call2_cst, val_main_call2_cst_0, val_main_call3_cst, val_main_call3_cst_0, val_main_call4_cst, val_main_call4_cst_0, val_main_call5_cst, val_main_call5_cst_0, val_main_call6_cst, val_main_call6_cst_0, val_main_call7_cst, val_main_call7_cst_0, val_main_call8_cst, val_main_call8_cst_0,
    val_main_cst_3]
  rw [Fin.sum_univ_eight]
  unfold expert hiddenUnit
  simp only [zero_sub]

/-- The reference's result. -/
theorem result (x0 : Vec Ideal S16384x1024 .bf16) (x1 : Vec Ideal S16384x1024 .f32) (x2 : Vec Ideal S16384x128 .f32) (x3 x4 : Vec Ideal S8x1024x1408 .bf16)
    (x5 : Vec Ideal S8x1408x1024 .bf16) (x6 : Vec Ideal S1024 .f32) (h : ∀ n k, rowLogits x2 n k ≠ ⊥ ∧ rowLogits x2 n k ≠ ⊤) (n : Fin 16384) (d : Fin 1024) :
    val_main_v155 (F := Ideal) x0 x1 x2 x3 x4 x5 x6 (ix2 n d)
      = ending x1 (fun e k => Route.weight (rowLogits x2 n) e * expert (fun k => x0 (ix2 n k)) x3 x4 x5 e k) x6 n d := by
  pointwise [val_main_v142, val_main_v143, val_main_v144, val_main_v145, val_main_v146, val_main_v147, val_main_v148, val_main_v149, val_main_v150, val_main_v151, val_main_v152, val_main_v153, val_main_v154, val_main_v155,
    val_main_cst_4, val_main_cst_5, val_main_cst_6]
  simp only [experts, combine _ _ (h n)]
  rfl

end Cert.ReferenceMoeIdeal.MoeRef

end
-- ==== Proof.Finite.lean ====
/- A number whose absolute value is below infinity is neither infinity. -/
module

public import Idealize.ShloMosaic.Lib.Pointwise
public import Idealize.ShloMosaic.Lib.IdealHost
public import Idealize.ShloMosaic.Lib.ReduceAll

@[expose] public section

noncomputable section

open Idealize.ShloMosaic Idealize.ShloMosaic.TcCoe Idealize.SL.Sem

namespace Cert.Finite

/-- The word of infinity. -/
theorem posInf : Ideal.ofBits FTy.f32 2139095040#32 = ⊤ := by decide +kernel

/-- A true test `|x| < ∞` says that `x` is a real number. -/
theorem of_test (x : EReal) (h : FloatOps.cmpf (F := Ideal) (φ := .f32) CmpFPredicate.olt (FloatOps.hostAbsf (F := Ideal) (φ := .f32) x) (Ideal.ofBits FTy.f32 2139095040#32) = 1#1) :
    x ≠ ⊥ ∧ x ≠ ⊤ := by
  rw [posInf] at h
  constructor
  · rintro rfl
    exact absurd h (by decide +kernel)
  · rintro rfl
    exact absurd h (by decide +kernel)

end Cert.Finite

end
-- ==== Proof.MoeClaims.lean ====
/- The value claim of the mixture of experts. -/
module

public import proofs.«01_k».proof.Defs
public import proofs.«01_k».proof.Proof.MoeRef
public import proofs.«01_k».proof.Proof.Finite
public import proofs.«01_k».proof.Proof.Gen.ReferenceMoeIdeal.Run
public import proofs.«01_k».proof.Proof.Gen.Pre_finite_logits

@[expose] public section

set_option maxRecDepth 16384

noncomputable section

namespace Cert.Proof

open Idealize.ShloMosaic Idealize.ShloMosaic.TcCoe Idealize.SL.Sem

attribute [local instance] Cert.KernelMoeIdeal.Gen.facts Cert.ReferenceMoeIdeal.Gen.facts Cert.Pre_finite_logits.Gen.facts

/-- The precondition says that every router logit is a real number. -/
theorem finite_logits_of_pre (m : (ℓ : Loc Cert.KernelMoeIdeal.nD Cert.KernelMoeIdeal.τ Cert.KernelMoeIdeal.sig) → Buf (Elt Ideal) ℓ)
    (h : Cert.Pre_KernelMoeIdeal_finite_logits m) (c : Dev Cert.KernelMoeIdeal.nD) : Cert.KernelMoeIdeal.MoeValue.FiniteLogits m c := by
  intro n k
  have e := congrFun (h c) ix0
  dsimp only [Cert.Pre_finite_logits.fn] at e
  haveI : Subsingleton Cert.Pre_finite_logits.S_.Idx := ⟨fun a b => funext fun i => i.elim0⟩
  have e' := Host.reduce_andi_all _ _ _ _ _ e (ix2 n k)
  refine Cert.Finite.of_test _ ?_
  refine Eq.trans ?_ e'
  pointwise
  rfl

/-- The mixture of experts' kernel and reference end with equal results. -/
theorem algebraic_Moe : Cert.algebraic_KernelMoeIdeal_ReferenceMoeIdeal_pre_finite_logits := by
  intro m ρ m' ρ' hpre hagree
  refine ⟨_, Cert.KernelMoeIdeal.Value.run_blocks (F := Ideal) m ρ, ?_⟩
  refine (θ_run Cert.ReferenceMoeIdeal.defs _ _).mono (fun _ h c => ⟨(h c).1.trans ?_, (h c).2⟩)
    (Cert.ReferenceMoeIdeal.Value.run (F := Ideal) m' ρ')
  obtain ⟨e0, e1, e2, e3, e4, e5, e6⟩ := hagree c
  have hf := finite_logits_of_pre m hpre c
  refine (Cert.ReferenceMoeIdeal.Read.val_main_v155_eq (StableHlo.launchContents m' c)).trans ?_
  change Cert.ReferenceMoeIdeal.Read.val_main_v155 (F := Ideal) (m' ((c.tc : Thread Cert.ReferenceMoeIdeal.nD Cert.ReferenceMoeIdeal.τ).loc Cert.ReferenceMoeIdeal.main_arg0)) (m' ((c.tc : Thread Cert.ReferenceMoeIdeal.nD Cert.ReferenceMoeIdeal.τ).loc Cert.ReferenceMoeIdeal.main_arg1))
      (m' ((c.tc : Thread Cert.ReferenceMoeIdeal.nD Cert.ReferenceMoeIdeal.τ).loc Cert.ReferenceMoeIdeal.main_arg2)) (m' ((c.tc : Thread Cert.ReferenceMoeIdeal.nD Cert.ReferenceMoeIdeal.τ).loc Cert.ReferenceMoeIdeal.main_arg3))
      (m' ((c.tc : Thread Cert.ReferenceMoeIdeal.nD Cert.ReferenceMoeIdeal.τ).loc Cert.ReferenceMoeIdeal.main_arg4)) (m' ((c.tc : Thread Cert.ReferenceMoeIdeal.nD Cert.ReferenceMoeIdeal.τ).loc Cert.ReferenceMoeIdeal.main_arg5))
      (m' ((c.tc : Thread Cert.ReferenceMoeIdeal.nD Cert.ReferenceMoeIdeal.τ).loc Cert.ReferenceMoeIdeal.main_arg6)) = _
  rw [e0, e1, e2, e3, e4, e5, e6]
  exact (Cert.KernelMoeIdeal.MoeValue.final m c hf _ fun n d => Cert.ReferenceMoeIdeal.MoeRef.result _ _ _ _ _ _ _ hf n d).symm

end Cert.Proof

end
-- ==== Proof.Reals.lean ====
/- The extended reals that are real numbers, and the operations that keep them so. -/
module

public import Idealize.ShloMosaic.Lib.Pointwise
public import Idealize.ShloMosaic.Lib.IdealHost

@[expose] public section

noncomputable section

open Idealize.ShloMosaic Idealize.ShloMosaic.TcCoe Idealize.SL.Sem

namespace Cert.Reals

/-- A real number. -/
def IsReal (x : EReal) : Prop := ∃ r : ℝ, x = (r : EReal)

/-- What is neither infinity is real. -/
theorem of_ne {x : EReal} (h : x ≠ ⊥ ∧ x ≠ ⊤) : IsReal x := ⟨x.toReal, (EReal.coe_toReal h.2 h.1).symm⟩

/-- A real number is not minus infinity. -/
theorem IsReal.ne_bot {x : EReal} (h : IsReal x) : x ≠ ⊥ := by obtain ⟨r, rfl⟩ := h; exact EReal.coe_ne_bot r

/-- A real number is not infinity. -/
theorem IsReal.ne_top {x : EReal} (h : IsReal x) : x ≠ ⊤ := by obtain ⟨r, rfl⟩ := h; exact EReal.coe_ne_top r

/-- Sums of two. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Products. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Zero. -/
theorem isReal_zero : IsReal 0 := ⟨0, EReal.coe_zero.symm⟩

/-- Finite sums. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number less itself is zero. -/
theorem IsReal.sub_self {x : EReal} (h : IsReal x) : x - x = 0 := EReal.sub_self h.ne_top h.ne_bot

/-- The square of a real number is not negative. -/
theorem IsReal.mul_self_nonneg {x : EReal} (h : IsReal x) : 0 ≤ x * x := by
  obtain ⟨a, rfl⟩ := h
  rw [← EReal.coe_mul, ← EReal.coe_zero, EReal.coe_le_coe_iff]
  exact _root_.mul_self_nonneg a

/-- A real number over a positive real number, plus another, has a real reciprocal root. -/
theorem isReal_rsqrt {x n e : EReal} (hx : IsReal x) (h0 : 0 ≤ x) (hn : ∃ r : ℝ, 0 < r ∧ n = (r : EReal)) (he : ∃ r : ℝ, 0 < r ∧ e = (r : EReal)) :
    IsReal (Ideal.rsqrt (Ideal.div x n + e)) := by
  obtain ⟨a, rfl⟩ := hx
  obtain ⟨r, hr, rfl⟩ := hn
  obtain ⟨s, hs, rfl⟩ := he
  rw [← EReal.coe_zero, EReal.coe_le_coe_iff] at h0
  have hp : 0 < a * r⁻¹ + s := by positivity
  rw [Ideal.div, if_neg (by rw [← EReal.coe_zero]; exact fun e => hr.ne' (EReal.coe_injective e)), ← EReal.coe_inv, ← EReal.coe_mul, ← EReal.coe_add,
    Ideal.rsqrt_coe, if_neg (not_lt.mpr hp.le), if_neg hp.ne']
  exact ⟨_, rfl⟩

/-- The word of 1024. -/
theorem width_pos : ∃ r : ℝ, 0 < r ∧ Ideal.ofBits FTy.f32 0x44800000#32 = (r : EReal) := by
  refine ⟨_, ?_, rfl⟩
  simp

/-- The word of the small number under the root. -/
theorem eps_pos : ∃ r : ℝ, 0 < r ∧ Ideal.ofBits FTy.f32 0x358637BD#32 = (r : EReal) := by
  refine ⟨_, ?_, rfl⟩
  simp

/-- Element `k` of a normalized row: the row's element times the reciprocal root of its mean square, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- A normalized row of real numbers is real. -/
theorem isReal_normed (x g : Fin 1024 → EReal) (hx : ∀ k, IsReal (x k)) (hg : ∀ k, IsReal (g k)) (k : Fin 1024) : IsReal (normed x g k) :=
  ((hx k).mul (isReal_rsqrt (isReal_sum _ _ fun j _ => (hx j).mul (hx j)) (Finset.sum_nonneg fun j _ => (hx j).mul_self_nonneg) width_pos eps_pos)).mul (hg k)

/-- The product of two splits into three terms each, the first terms being the numbers themselves: the product. -/
theorem split_product {ι : Type} [Fintype ι] (a b : ι → EReal) (ha : ∀ i, IsReal (a i)) (hb : ∀ i, IsReal (b i)) :
    ∑ i, a i * b i + ∑ i, a i * (b i - b i) + ∑ i, (a i - a i) * b i + ∑ i, (a i - a i) * (b i - b i) + ∑ i, a i * (b i - b i - (b i - b i))
      + ∑ i, (a i - a i - (a i - a i)) * b i = ∑ i, a i * b i := by
  simp only [(ha _).sub_self, (hb _).sub_self, sub_zero, mul_zero, zero_mul, Finset.sum_const_zero, add_zero]

end Cert.Reals

end
-- ==== Proof.OutValue.lean ====
/- The output projection: what the kernel leaves in its three result arrays, as the reference's composed terms. -/
module

public import proofs.«01_k».proof.Proof.Gen.KernelOutIdeal.Value
public import proofs.«01_k».proof.Proof.Gen.ReferenceOutIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutIdeal.OutValue

open Cert.KernelOutIdeal Cert.KernelOutIdeal.Gen Cert.Reals

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ t.val < 32 :=
  (by decide +kernel : ∀ t : Fin grid0.N, _)

/-- An element of the new residual row: the old one plus the two halves' projection. -/
def resid (y0 y1 : Fin 512 → EReal) (x : EReal) (w : Fin 1024 → EReal) : EReal :=
  x + (∑ k : Fin 512, y0 k * w ⟨k.val, by omega⟩ + ∑ k : Fin 512, y1 k * w ⟨512 + k.val, by omega⟩)

/-- The body's residual row. -/
theorem pay2_apply (x0 x1 : Vec Ideal S512x512 .bf16) (x2 : Vec Ideal S512x1024 .f32) (x3 : Vec Ideal S1024x1024 .bf16) (r : Fin 512) (d : Fin 1024) :
    k0_pay2 x0 x1 x2 x3 (ix2 r d) = resid (fun k => x0 (ix2 r k)) (fun k => x1 (ix2 r k)) (x2 (ix2 r d)) (fun k => x3 (ix2 k d)) := by
  pointwise [k0_pay2]
  rfl

/-- The body's normalized row. -/
theorem pay3_apply (x0 x1 : Vec Ideal S512x512 .bf16) (x2 : Vec Ideal S512x1024 .f32) (x3 : Vec Ideal S1024x1024 .bf16) (x4 : Vec Ideal S1x1024 .f32) (r : Fin 512) (d : Fin 1024) :
    k0_pay3 x0 x1 x2 x3 x4 (ix2 r d)
      = normed (fun d => resid (fun k => x0 (ix2 r k)) (fun k => x1 (ix2 r k)) (x2 (ix2 r d)) (fun k => x3 (ix2 k d))) (fun d => x4 (ix2 0 d)) d := by
  pointwise [k0_pay3]
  simp only [pay2_apply]
  rfl

/-- What the body leaves in its first output block. -/
theorem block6_apply (x0 x1 : Vec Ideal S512x512 .bf16) (x2 : Vec Ideal S512x1024 .f32) (x3 : Vec Ideal S1024x1024 .bf16) (x4 : Vec Ideal S1x1024 .f32) (x5 : Vec Ideal S1024x128 .f32) (r : Fin 512) (d : Fin 1024) :
    out0_6 x0 x1 x2 x3 x4 x5 (ix2 r d) = resid (fun k => x0 (ix2 r k)) (fun k => x1 (ix2 r k)) (x2 (ix2 r d)) (fun k => x3 (ix2 k d)) := by
  frame_out
  exact pay2_apply _ _ _ _ _ _

/-- What the body leaves in its second output block. -/
theorem block7_apply (x0 x1 : Vec Ideal S512x512 .bf16) (x2 : Vec Ideal S512x1024 .f32) (x3 : Vec Ideal S1024x1024 .bf16) (x4 : Vec Ideal S1x1024 .f32) (x5 : Vec Ideal S1024x128 .f32) (r : Fin 512) (d : Fin 1024) :
    out0_7 x0 x1 x2 x3 x4 x5 (ix2 r d)
      = normed (fun d => resid (fun k => x0 (ix2 r k)) (fun k => x1 (ix2 r k)) (x2 (ix2 r d)) (fun k => x3 (ix2 k d))) (fun d => x4 (ix2 0 d)) d := by
  frame_out
  pointwise [k0_pay4]
  exact pay3_apply _ _ _ _ _ _ _

/-- What the body leaves in its third output block: the normalized row times the router, when both are real. -/
theorem block8_apply (x0 x1 : Vec Ideal S512x512 .bf16) (x2 : Vec Ideal S512x1024 .f32) (x3 : Vec Ideal S1024x1024 .bf16) (x4 : Vec Ideal S1x1024 .f32) (x5 : Vec Ideal S1024x128 .f32) (r : Fin 512) (d : Fin 128)
    (h : Fin 1024 → EReal) (hh : ∀ k, k0_pay3 x0 x1 x2 x3 x4 (ix2 r k) = h k) (ha : ∀ k, IsReal (h k)) (hb : ∀ k, IsReal (x5 (ix2 k d))) :
    out0_8 x0 x1 x2 x3 x4 x5 (ix2 r d) = ∑ k, h k * x5 (ix2 k d) := by
  frame_out
  pointwise [k0_pay1, k0_pay6, k0_pay7, k0_pay8, k0_pay9, k0_pay10, k0_pay11, k0_pay5]
  simp only [hh]
  exact split_product h (fun k => x5 (ix2 k d)) ha hb

/-- The residual row of a token. -/
def tokenResid (x0 x1 : Vec Ideal S16384x512 .bf16) (x2 : Vec Ideal S16384x1024 .f32) (x3 : Vec Ideal S2x1024x1024 .f32) (n : Fin 16384) (d : Fin 1024) : EReal :=
  resid (fun k => x0 (ix2 n k)) (fun k => x1 (ix2 n k)) (x2 (ix2 n d)) (fun k => x3 (ix3 1 k d))

/-- The normalized row of a token. -/
def tokenNormed (x0 x1 : Vec Ideal S16384x512 .bf16) (x2 : Vec Ideal S16384x1024 .f32) (x3 : Vec Ideal S2x1024x1024 .f32) (x4 : Vec Ideal S2x1024 .f32) (n : Fin 16384) (d : Fin 1024) : EReal :=
  normed (tokenResid x0 x1 x2 x3 n) (fun d => x4 (ix2 1 d)) d

/-- The router's column, zero past the eighth. -/
def routerCol (x5 : Vec Ideal S1x1024x8 .f32) (k : Fin 1024) (d : Fin 128) : EReal := if h : d.val < 8 then x5 (ix3 0 k ⟨d.val, h⟩) else 0

/-- The integer zero as a number. -/
theorem sitofp_zero : FloatOps.sitofp (F := Ideal) FTy.f32 0#32 = (0 : EReal) := by
  show (((0 : ℤ) : ℝ) : EReal) = 0
  norm_num

/-- The reference's first result. -/
theorem ref6_apply (x0 x1 : Vec Ideal S16384x512 .bf16) (x2 : Vec Ideal S16384x1024 .f32) (x3 : Vec Ideal S2x1024x1024 .f32) (n : Fin 16384) (d : Fin 1024) :
    Cert.ReferenceOutIdeal.Read.val_main_v6 (F := Ideal) x0 x1 x2 x3 (ix2 n d) = tokenResid x0 x1 x2 x3 n d := by
  rw [← Cert.ReferenceOutIdeal.Read.val_main_v6_eq]
  pointwise
  rfl

/-- The reference's normalized row. -/
theorem ref21_apply (x0 x1 : Vec Ideal S16384x512 .bf16) (x2 : Vec Ideal S16384x1024 .f32) (x3 : Vec Ideal S2x1024x1024 .f32) (x4 : Vec Ideal S2x1024 .f32) (n : Fin 16384) (d : Fin 1024) :
    Cert.ReferenceOutIdeal.Read.val_main_v21 (F := Ideal) x0 x1 x2 x3 x4 (ix2 n d) = tokenNormed x0 x1 x2 x3 x4 n d := by
  open Cert.ReferenceOutIdeal.Read in
  pointwise [val_main_v21, val_main_v20, val_main_v19, val_main_v18, val_main_v17, val_main_v16, val_main_v15, val_main_v14, val_main_v13, val_main_v12, val_main_v11, val_main_v10, val_main_v9,
    val_main_v8, val_main_v7, val_main_cst, val_main_cst_0, val_main_cst_1]
  simp only [ref6_apply]
  rfl

/-- The reference's second result. -/
theorem ref22_apply (x0 x1 : Vec Ideal S16384x512 .bf16) (x2 : Vec Ideal S16384x1024 .f32) (x3 : Vec Ideal S2x1024x1024 .f32) (x4 : Vec Ideal S2x1024 .f32) (n : Fin 16384) (d : Fin 1024) :
    Cert.ReferenceOutIdeal.Read.val_main_v22 (F := Ideal) x0 x1 x2 x3 x4 (ix2 n d) = tokenNormed x0 x1 x2 x3 x4 n d := by
  pointwise [Cert.ReferenceOutIdeal.Read.val_main_v22]
  exact ref21_apply _ _ _ _ _ _ _

/-- The reference's third result. -/
theorem ref25_apply (x0 x1 : Vec Ideal S16384x512 .bf16) (x2 : Vec Ideal S16384x1024 .f32) (x3 : Vec Ideal S2x1024x1024 .f32) (x4 : Vec Ideal S2x1024 .f32) (x5 : Vec Ideal S1x1024x8 .f32) (n : Fin 16384) (d : Fin 128) :
    Cert.ReferenceOutIdeal.Read.val_main_v25 (F := Ideal) x0 x1 x2 x3 x4 x5 (ix2 n d) = ∑ k, tokenNormed x0 x1 x2 x3 x4 n k * routerCol x5 k d := by
  open Cert.ReferenceOutIdeal.Read in
  pointwise [val_main_v25, val_main_v24, val_main_v23, val_main_call0_v0, val_main_c]
  simp only [ref21_apply]
  unfold routerCol
  by_cases h : d.val < 8
  · simp only [dif_pos h]
  · simp only [dif_neg h, mul_zero, Finset.sum_const_zero]
    exact sitofp_zero

/-- The first half of the mixed rows, read from the argument array. -/
theorem half0 (c : Dev nD) (t : Fin cfg0.N) (r : Fin 512) (k : Fin 512) :
    iblk m c 0 t (ix2 r k) = m ((c : Thread nD τ).loc main_arg0) (ix2 (⟨t.val * 512 + r.val, by have := idx t; omega⟩ : Fin 16384) k) := by
  blk_simp [iblk]
  blk_ext [iblk, V, idx t]

/-- The second half of the mixed rows, read from the argument array. -/
theorem half1 (c : Dev nD) (t : Fin cfg0.N) (r : Fin 512) (k : Fin 512) :
    iblk m c 1 t (ix2 r k) = m ((c : Thread nD τ).loc main_arg1) (ix2 (⟨t.val * 512 + r.val, by have := idx t; omega⟩ : Fin 16384) k) := by
  blk_simp [iblk]
  blk_ext [iblk, V, idx t]

/-- The residual rows, read from the argument array. -/
theorem stream (c : Dev nD) (t : Fin cfg0.N) (r : Fin 512) (k : Fin 1024) :
    iblk m c 2 t (ix2 r k) = m ((c : Thread nD τ).loc main_arg2) (ix2 (⟨t.val * 512 + r.val, by have := idx t; omega⟩ : Fin 16384) k) := by
  blk_simp [iblk]
  blk_ext [iblk, V, idx t]

/-- The weights as the host prepares them. -/
theorem entry4 (c : Dev nD) : V m c main_v4 = truncf (F := Ideal) (φ := .f32) FTy.bf16 (shapeCast S1024x1024 (extractStridedSlice S1x1024x1024 ![1, 0, 0] (m ((c : Thread nD τ).loc main_arg3)) slices_S2x1024x1024_S1x1024x1024_1_0_0) shapeCasts_S1x1024x1024_S1024x1024) bitsLt_bf16_f32 := by
  unfold V
  simp only [List.flatten_cons, List.flatten_nil, List.cons_append, List.nil_append, List.append_nil, StableHlo.after_cons, StableHlo.after_nil]
  after_results_simp
  rfl

/-- The gain as the host prepares it. -/
theorem entry7 (c : Dev nD) : V m c main_v7 = shapeCast S1x1024 (shapeCast S1024 (extractStridedSlice S1x1024 ![1, 0] (m ((c : Thread nD τ).loc main_arg4)) slices_S2x1024_S1x1024_1_0) shapeCasts_S1x1024_S1024) shapeCasts_S1024_S1x1024 := by
  unfold V
  simp only [List.flatten_cons, List.flatten_nil, List.cons_append, List.nil_append, List.append_nil, StableHlo.after_cons, StableHlo.after_nil]
  after_results_simp
  rfl

/-- The router as the host prepares it: padded with zero columns. -/
theorem entry1 (c : Dev nD) : V m c main_v1 = pad S1024x128 ![0, 0] ![0, 120] ![0, 0] (shapeCast S1024x8 (m ((c : Thread nD τ).loc main_arg5)) shapeCasts_S1x1024x8_S1024x8)
    (sitofp (F := Ideal) FTy.f32 (constantI S_ 32 0#32)) pads_S1024x8_S1024x128_000_01200 h_S_ := by
  unfold V
  simp only [List.flatten_cons, List.flatten_nil, List.cons_append, List.nil_append, List.append_nil, StableHlo.after_cons, StableHlo.after_nil]
  after_results_simp
  rfl

/-- The weights, read from the argument array. -/
theorem weights (c : Dev nD) (t : Fin cfg0.N) (k d : Fin 1024) :
    iblk m c 3 t (ix2 k d) = m ((c : Thread nD τ).loc main_arg3) (ix3 (1 : Fin 2) k d) := by
  blk_simp [iblk]
  refine (congrFun (entry4 m c) _).trans ?_
  pointwise
  blk_ext [idx t]

/-- The gain, read from the argument array. -/
theorem gain (c : Dev nD) (t : Fin cfg0.N) (k : Fin 1024) :
    iblk m c 4 t (ix2 (0 : Fin 1) k) = m ((c : Thread nD τ).loc main_arg4) (ix2 (1 : Fin 2) k) := by
  blk_simp [iblk]
  refine (congrFun (entry7 m c) _).trans ?_
  pointwise
  blk_ext [idx t]

/-- The padded router, element by element. -/
theorem padded (x5 : Vec Ideal S1x1024x8 .f32) (k : Fin 1024) (d : Fin 128) :
    pad S1024x128 ![0, 0] ![0, 120] ![0, 0] (shapeCast S1024x8 x5 shapeCasts_S1x1024x8_S1024x8) (sitofp (F := Ideal) FTy.f32 (constantI S_ 32 0#32)) pads_S1024x8_S1024x128_000_01200 h_S_ (ix2 k d)
      = routerCol x5 k d := by
  pointwise
  rw [sitofp_zero]
  rfl

/-- The router, read from the argument array. -/
theorem router (c : Dev nD) (t : Fin cfg0.N) (k : Fin 1024) (d : Fin 128) :
    iblk m c 5 t (ix2 k d) = routerCol (m ((c : Thread nD τ).loc main_arg5)) k d := by
  have e : ((cfg0.win 5).blk t).view.emb (ix2 k d) = (ix2 k d : S1024x128.Idx) := by blk_ext [iblk, V, idx t]
  refine (congrArg (V m c main_v1) e).trans ((congrFun (entry1 m c) _).trans ?_)
  exact padded _ k d

/-- The token row a grid point's block row is. -/
def row (t : Fin cfg0.N) (r : Fin 512) : Fin 16384 := ⟨t.val * 512 + r.val, by have := idx t; omega⟩

/-- The first result array. -/
theorem final6 (c : Dev nD) : (dats m 0 c).arrAt 6 cfg0.N = Cert.ReferenceOutIdeal.Read.val_main_v6 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  idx_vars y
  rw [block6_apply]
  have h := idx t
  have e : ((cfg0.win 6).blk t).view.emb (ix2 y0 y1) = ix2 (row t y0) y1 := by unfold row; blk_ext [iblk, V, idx t]
  rw [e]
  refine Eq.trans ?_ (ref6_apply _ _ _ _ _ _).symm
  simp only [half0, half1, stream, weights]
  rfl

/-- A block's normalized row is the token's. -/
theorem normed_row (c : Dev nD) (t : Fin cfg0.N) (r : Fin 512) (d : Fin 1024) :
    k0_pay3 (iblk m c 0 t) (iblk m c 1 t) (iblk m c 2 t) (iblk m c 3 t) (iblk m c 4 t) (ix2 r d) = tokenNormed (m ((c : Thread nD τ).loc main_arg0)) (m ((c : Thread nD τ).loc main_arg1)) (m ((c : Thread nD τ).loc main_arg2)) (m ((c : Thread nD τ).loc main_arg3)) (m ((c : Thread nD τ).loc main_arg4)) (row t r) d := by
  refine (pay3_apply _ _ _ _ _ _ _).trans ?_
  simp only [half0, half1, stream, weights, gain]
  rfl

/-- The second result array. -/
theorem final7 (c : Dev nD) : (dats m 0 c).arrAt 7 cfg0.N = Cert.ReferenceOutIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  rw [block7_apply, ← pay3_apply]
  have h := idx t
  have e : ((cfg0.win 7).blk t).view.emb (ix2 y0 y1) = ix2 (row t y0) y1 := by unfold row; blk_ext [iblk, V, idx t]
  rw [e]
  exact (normed_row m c t y0 y1).trans (ref22_apply _ _ _ _ _ _ _).symm

/-- The arrays the router's product depends on are real. -/
structure RealArgs (c : Dev nD) : Prop where
  /-- The first half of the mixed rows. -/
  half0 : ∀ (n : Fin 16384) (k : Fin 512), IsReal ((m ((c : Thread nD τ).loc main_arg0)) (ix2 n k))
  /-- The second half of the mixed rows. -/
  half1 : ∀ (n : Fin 16384) (k : Fin 512), IsReal ((m ((c : Thread nD τ).loc main_arg1)) (ix2 n k))
  /-- The residual rows. -/
  stream : ∀ (n : Fin 16384) (k : Fin 1024), IsReal ((m ((c : Thread nD τ).loc main_arg2)) (ix2 n k))
  /-- The weights. -/
  weights : ∀ (k d : Fin 1024), IsReal ((m ((c : Thread nD τ).loc main_arg3)) (ix3 (1 : Fin 2) k d))
  /-- The gain. -/
  gain : ∀ (k : Fin 1024), IsReal ((m ((c : Thread nD τ).loc main_arg4)) (ix2 (1 : Fin 2) k))
  /-- The router. -/
  router : ∀ (k : Fin 1024) (e : Fin 8), IsReal ((m ((c : Thread nD τ).loc main_arg5)) (ix3 (0 : Fin 1) k e))

/-- A token's normalized row is real. -/
theorem isReal_tokenNormed (c : Dev nD) (h : RealArgs m c) (n : Fin 16384) (d : Fin 1024) : IsReal (tokenNormed (m ((c : Thread nD τ).loc main_arg0)) (m ((c : Thread nD τ).loc main_arg1)) (m ((c : Thread nD τ).loc main_arg2)) (m ((c : Thread nD τ).loc main_arg3)) (m ((c : Thread nD τ).loc main_arg4)) n d) :=
  isReal_normed _ _ (fun k => (h.stream n k).add ((isReal_sum _ _ fun j _ => (h.half0 n j).mul (h.weights _ k)).add (isReal_sum _ _ fun j _ => (h.half1 n j).mul (h.weights _ k))))
    (fun k => h.gain k) d

/-- The padded router is real. -/
theorem isReal_routerCol (c : Dev nD) (h : RealArgs m c) (k : Fin 1024) (d : Fin 128) : IsReal (routerCol (m ((c : Thread nD τ).loc main_arg5)) k d) := by
  unfold routerCol
  split
  · exact h.router _ _
  · exact isReal_zero

/-- The third result array, when the arrays it depends on are real. -/
theorem final8 (c : Dev nD) (hr : RealArgs m c) : (dats m 0 c).arrAt 8 cfg0.N = Cert.ReferenceOutIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  idx_vars y
  rw [block8_apply _ _ _ _ _ _ _ _ _ (fun k => normed_row m c t y0 k) (fun k => isReal_tokenNormed m c hr _ k) (fun k => by rw [router]; exact isReal_routerCol m c hr k y1)]
  have h := idx t
  have e : ((cfg0.win 8).blk t).view.emb (ix2 y0 y1) = ix2 (row t y0) y1 := by unfold row; blk_ext [iblk, V, idx t]
  rw [e]
  refine Eq.trans ?_ (ref25_apply _ _ _ _ _ _ _ _).symm
  simp only [router]

end Cert.KernelOutIdeal.OutValue

end
-- ==== Proof.OutClaims.lean ====
/- The value claim of the output projection. -/
module

public import proofs.«01_k».proof.Defs
public import proofs.«01_k».proof.Proof.OutValue
public import proofs.«01_k».proof.Proof.Finite
public import proofs.«01_k».proof.Proof.Gen.ReferenceOutIdeal.Run
public import proofs.«01_k».proof.Proof.Gen.Pre_finite_router

@[expose] public section

set_option maxRecDepth 16384

noncomputable section

namespace Cert.Proof

open Idealize.ShloMosaic Idealize.ShloMosaic.TcCoe Idealize.SL.Sem

attribute [local instance] Cert.KernelOutIdeal.Gen.facts Cert.ReferenceOutIdeal.Gen.facts Cert.Pre_finite_router.Gen.facts

/-- A conjunction of two bits is true only when both are. -/
theorem and_bits (a b : BitVec 1) (h : IntOp.andi a b = 1#1) : a = 1#1 ∧ b = 1#1 := by
  revert a b
  decide

/-- The precondition says that the arrays the router's product depends on are real. -/
theorem realArgs_of_pre (m : (ℓ : Loc Cert.KernelOutIdeal.nD Cert.KernelOutIdeal.τ Cert.KernelOutIdeal.sig) → Buf (Elt Ideal) ℓ)
    (h : Cert.Pre_KernelOutIdeal_finite_router m) (c : Dev Cert.KernelOutIdeal.nD) : Cert.KernelOutIdeal.OutValue.RealArgs m c := by
  have e := congrFun (h c) ix0
  dsimp only [Cert.Pre_finite_router.fn, Cert.Pre_finite_router.fn_part1] at e
  haveI : Subsingleton Cert.Pre_finite_router.S_.Idx := ⟨fun a b => funext fun i => i.elim0⟩
  obtain ⟨e, e5⟩ := and_bits _ _ e
  obtain ⟨e01, e⟩ := and_bits _ _ e
  obtain ⟨e, e4⟩ := and_bits _ _ e
  obtain ⟨e2, e3⟩ := and_bits _ _ e
  obtain ⟨e0, e1⟩ := and_bits _ _ e01
  refine ⟨fun n k => ?_, fun n k => ?_, fun n k => ?_, fun k d => ?_, fun k => ?_, fun k e => ?_⟩
  · refine Cert.Reals.of_ne (Cert.Finite.of_test _ (Eq.trans ?_ (Host.reduce_andi_all _ _ _ _ _ e0 (ix2 n k))))
    pointwise
  · refine Cert.Reals.of_ne (Cert.Finite.of_test _ (Eq.trans ?_ (Host.reduce_andi_all _ _ _ _ _ e1 (ix2 n k))))
    pointwise
  · refine Cert.Reals.of_ne (Cert.Finite.of_test _ (Eq.trans ?_ (Host.reduce_andi_all _ _ _ _ _ e2 (ix2 n k))))
    pointwise
  · refine Cert.Reals.of_ne (Cert.Finite.of_test _ (Eq.trans ?_ (Host.reduce_andi_all _ _ _ _ _ e3 (ix2 k d))))
    pointwise
  · refine Cert.Reals.of_ne (Cert.Finite.of_test _ (Eq.trans ?_ (Host.reduce_andi_all _ _ _ _ _ e4 (ix1 k))))
    pointwise
  · refine Cert.Reals.of_ne (Cert.Finite.of_test _ (Eq.trans ?_ (Host.reduce_andi_all _ _ _ _ _ e5 (ix3 0 k e))))
    pointwise

/-- The output projection's kernel and reference end with equal results. -/
theorem algebraic_Out : Cert.algebraic_KernelOutIdeal_ReferenceOutIdeal_pre_finite_router := by
  intro m ρ m' ρ' hpre hagree
  refine ⟨_, _, _, Cert.KernelOutIdeal.Value.run_blocks (F := Ideal) m ρ, ?_⟩
  refine (θ_run Cert.ReferenceOutIdeal.defs _ _).mono (fun _ h c => ⟨(h c).1.trans ?_, (h c).2.1.trans ?_, (h c).2.2.1.trans ?_, (h c).2.2.2⟩)
    (Cert.ReferenceOutIdeal.Value.run (F := Ideal) m' ρ')
  all_goals obtain ⟨e0, e1, e2, e3, e4, e5⟩ := hagree c
  · rw [e0, e1, e2, e3]
    exact (Cert.ReferenceOutIdeal.Read.val_main_v6_eq _ _ _ _).trans (Cert.KernelOutIdeal.OutValue.final6 m c).symm
  · rw [e0, e1, e2, e3, e4]
    exact (Cert.ReferenceOutIdeal.Read.val_main_v22_eq _ _ _ _ _).trans (Cert.KernelOutIdeal.OutValue.final7 m c).symm
  · rw [e0, e1, e2, e3, e4, e5]
    exact (Cert.ReferenceOutIdeal.Read.val_main_v25_eq _ _ _ _ _ _).trans (Cert.KernelOutIdeal.OutValue.final8 m c (realArgs_of_pre m hpre c)).symm

end Cert.Proof

end
-- ==== Proof.AttnBlock.lean ====
/- The attention's block: what the body leaves in its output block, element by element. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelIdeal.AttnBlock

open Cert.KernelIdeal Cert.KernelIdeal.Gen

/-- The score of the first head of a pair at row `r` against key `j`: the lanes of the other head are left out. -/
def firstScore (q : Fin 64 → Fin 128 → EReal) (k : Fin 640 → Fin 128 → EReal) (b : Fin 128 → Fin 640 → EReal) (r : Fin 64) (j : Fin 640) : EReal :=
  ∑ x : Fin 128, Scalar.select (IntOp.cmpi CmpIPredicate.slt (BitVec.ofNat 32 x.val) 64#32) (q r x * Ideal.ofBits FTy.bf16 15872#16 * k j x) 0 + b ⟨r.val, by omega⟩ j

/-- The score of the second head of a pair. -/
def secondScore (q : Fin 64 → Fin 128 → EReal) (k : Fin 640 → Fin 128 → EReal) (b : Fin 128 → Fin 640 → EReal) (r : Fin 64) (j : Fin 640) : EReal :=
  ∑ x : Fin 128, Scalar.select (IntOp.cmpi CmpIPredicate.slt (BitVec.ofNat 32 x.val) 64#32) 0 (q r x * Ideal.ofBits FTy.bf16 15872#16 * k j x) + b ⟨64 + r.val, by omega⟩ j

/-- The largest of a row of numbers. -/
def top {n : Nat} (s : Fin n → EReal) : EReal := Finset.fold max (Ideal.ofBits FTy.f32 4286578688#32) s Finset.univ

/-- The mean of `v` weighted by the exponentials of `s`. -/
def softmean {n : Nat} (s v : Fin n → EReal) : EReal :=
  Ideal.div (∑ j, Ideal.exp (s j - top s) * v j) (∑ j, Ideal.exp (s j - top s))

/-- What a pair of heads leaves at row `r` and lane `l`. -/
def pairOut (q : Fin 64 → Fin 128 → EReal) (k v : Fin 640 → Fin 128 → EReal) (b : Fin 128 → Fin 640 → EReal) (r : Fin 64) (l : Fin 128) : EReal :=
  Scalar.select (IntOp.cmpi CmpIPredicate.slt (BitVec.ofNat 32 l.val) 64#32)
    (softmean (firstScore q k b r) fun j => v j l) (softmean (secondScore q k b r) fun j => v j l)

/-- The first pair of heads. -/
theorem pair0_apply (q : Vec Ideal S1x64x512 .bf16) (k v : Vec Ideal S1x640x512 .bf16) (b : Vec Ideal S1x1x128x640 .f32) (r : Fin 64) (l : Fin 128) :
    k1_pay10 (F := Ideal) k1_pay5 (k1_pay7 q k b) (k1_pay8 q k b) (k1_pay9 v) (ix2 r l)
      = pairOut (fun r x => q (ix3 0 r ⟨x.val, by omega⟩)) (fun j x => k (ix3 0 j ⟨x.val, by omega⟩)) (fun j x => v (ix3 0 j ⟨x.val, by omega⟩)) (fun R j => b (ix4 0 0 R j)) r l := by
  pointwise [k1_pay10, k1_pay7, k1_pay8, k1_pay9, k1_pay6, k1_pay2, k1_pay3, k1_pay4, k1_pay5]
  rfl

/-- The second pair of heads. -/
theorem pair1_apply (q : Vec Ideal S1x64x512 .bf16) (k v : Vec Ideal S1x640x512 .bf16) (b : Vec Ideal S1x1x128x640 .f32) (r : Fin 64) (l : Fin 128) :
    k1_pay11 (F := Ideal) (k1_pay2 q) (k1_pay3 k) (k1_pay4 v) k1_pay5 b (ix2 r l)
      = pairOut (fun r x => q (ix3 0 r ⟨128 + x.val, by omega⟩)) (fun j x => k (ix3 0 j ⟨128 + x.val, by omega⟩)) (fun j x => v (ix3 0 j ⟨128 + x.val, by omega⟩)) (fun R j => b (ix4 0 0 R j)) r l := by
  pointwise [k1_pay11, k1_pay2, k1_pay3, k1_pay4, k1_pay5]
  rfl

/-- The four pairs side by side. -/
theorem pairs_apply (q : Vec Ideal S1x64x512 .bf16) (k v : Vec Ideal S1x640x512 .bf16) (p0 p1 : Vec Ideal S64x128 .f32) (b2 b3 : Vec Ideal S1x1x128x640 .f32) (r : Fin 64) (d : Fin 512) :
    k1_pay14 (F := Ideal) (k1_pay2 q) (k1_pay3 k) (k1_pay4 v) k1_pay5 p0 p1 (k1_pay12 (k1_pay2 q) (k1_pay3 k) k1_pay5) (k1_pay13 b2) b3 (ix2 r d)
      = if h : d.val < 128 then p0 (ix2 r ⟨d.val, h⟩) else if h1 : d.val - 128 < 128 then p1 (ix2 r ⟨d.val - 128, h1⟩)
        else if h2 : d.val - 128 - 128 < 128 then
          pairOut (fun r x => q (ix3 0 r ⟨256 + x.val, by omega⟩)) (fun j x => k (ix3 0 j ⟨256 + x.val, by omega⟩)) (fun j x => v (ix3 0 j ⟨256 + x.val, by omega⟩)) (fun R j => b2 (ix4 0 0 R j)) r ⟨d.val - 128 - 128, h2⟩
        else pairOut (fun r x => q (ix3 0 r ⟨384 + x.val, by omega⟩)) (fun j x => k (ix3 0 j ⟨384 + x.val, by omega⟩)) (fun j x => v (ix3 0 j ⟨384 + x.val, by omega⟩)) (fun R j => b3 (ix4 0 0 R j)) r ⟨d.val - 128 - 128 - 128, by omega⟩ := by
  pointwise [k1_pay14, k1_pay12, k1_pay13, k1_pay2, k1_pay3, k1_pay4, k1_pay5]
  rfl

/-- The normalization after the heads. -/
theorem pay1_apply (o : Vec Ideal S64x512 .f32) (g : Vec Ideal S1x512 .f32) (r : Fin 64) (d : Fin 512) :
    k1_pay1 (F := Ideal) o (k1_pay15 g) (ix3 0 r d)
      = o (ix2 r d) * Ideal.rsqrt (Ideal.div (∑ x, o (ix2 r x) * o (ix2 r x)) (Ideal.ofBits .f32 0x44000000#32) + Ideal.ofBits .f32 0x358637BD#32) * g (ix2 0 d) := by
  pointwise [k1_pay1, k1_pay15]

/-- The lane test of the pairs. -/
theorem lane_test : ∀ x : Fin 128, IntOp.cmpi CmpIPredicate.slt (BitVec.ofNat 32 x.val) 64#32 = if x.val < 64 then 1#1 else 0#1 := by decide +kernel

/-- Lane `x` of the head that element `d` of a row belongs to. -/
def headLane (d : Fin 512) (x : Fin 64) : Fin 512 := ⟨64 * (d.val / 64) + x.val, by omega⟩

/-- The score of a query row against a key, in the head of element `d`. -/
def score (q k : Fin 512 → EReal) (b : EReal) (d : Fin 512) : EReal :=
  ∑ x : Fin 64, q (headLane d x) * Ideal.ofBits FTy.bf16 15872#16 * k (headLane d x) + b

/-- The attention of row `r` at element `d`, from the 640 keys of the window. -/
def attend (q : Fin 64 → Fin 512 → EReal) (k v : Fin 640 → Fin 512 → EReal) (b : Fin 512 → Fin 640 → EReal) (r : Fin 64) (d : Fin 512) : EReal :=
  softmean (fun j => score (q r) (k j) (b (headLane d r) j) d) fun j => v j d

/-- A pair's output is the attention of its heads. -/
theorem pairOut_eq (Q : Fin 64 → Fin 512 → EReal) (K V : Fin 640 → Fin 512 → EReal) (B : Fin 512 → Fin 640 → EReal)
    (q : Fin 64 → Fin 128 → EReal) (k v : Fin 640 → Fin 128 → EReal) (b : Fin 128 → Fin 640 → EReal) (o : Nat) (ho : o % 128 = 0) (hl : o ≤ 384)
    (hq : ∀ r x, q r x = Q r ⟨o + x.val, by omega⟩) (hk : ∀ j x, k j x = K j ⟨o + x.val, by omega⟩) (hv : ∀ j x, v j x = V j ⟨o + x.val, by omega⟩)
    (hb : ∀ R j, b R j = B ⟨o + R.val, by omega⟩ j) (r : Fin 64) (l : Fin 128) (d : Fin 512) (hd : d.val = o + l.val) :
    pairOut q k v b r l = attend Q K V B r d := by
  unfold pairOut attend
  rw [lane_test]
  have hvd : (fun j => v j l) = fun j => V j d := by
    funext j
    rw [hv]
    exact congrArg _ (Fin.ext hd.symm)
  by_cases h : l.val < 64
  · rw [if_pos h]
    change softmean _ _ = _
    rw [hvd]
    congr 1
    funext j
    unfold firstScore score
    refine congrArg₂ (· + ·) ?_ ((hb _ _).trans (congrArg (fun x => B x j) (Fin.ext ?_)))
    · rw [Fin.sum_univ_add (a := 64) (b := 64)]
      refine (congrArg₂ (· + ·) (Finset.sum_congr rfl fun x _ => ?_) (Finset.sum_eq_zero fun x _ => ?_)).trans (add_zero _)
      · rw [lane_test, if_pos (by simp), hq, hk]
        change Q r _ * _ * K j _ = _
        have e : (⟨o + (Fin.castAdd 64 x).val, by simp; omega⟩ : Fin 512) = headLane d x := Fin.ext (by simp [headLane]; omega)
        rw [e]
      · rw [lane_test, if_neg (by simp)]
        rfl
    · simp only [headLane]
      omega
  · rw [if_neg h]
    change softmean _ _ = _
    rw [hvd]
    congr 1
    funext j
    unfold secondScore score
    refine congrArg₂ (· + ·) ?_ ((hb _ _).trans (congrArg (fun x => B x j) (Fin.ext ?_)))
    · rw [Fin.sum_univ_add (a := 64) (b := 64)]
      refine (congrArg₂ (· + ·) (Finset.sum_eq_zero fun x _ => ?_) (Finset.sum_congr rfl fun x _ => ?_)).trans (zero_add _)
      · rw [lane_test, if_pos (by simp)]
        rfl
      · rw [lane_test, if_neg (by simp), hq, hk]
        change Q r _ * _ * K j _ = _
        have e : (⟨o + (Fin.natAdd 64 x).val, by simp; omega⟩ : Fin 512) = headLane d x := Fin.ext (by simp [headLane]; omega)
        rw [e]
    · simp only [headLane]
      omega

/-- Element `d` of a normalized row of 512. -/
def normed (o g : Fin 512 → EReal) (d : Fin 512) : EReal :=
  o d * Ideal.rsqrt (Ideal.div (∑ x, o x * o x) (Ideal.ofBits .f32 0x44000000#32) + Ideal.ofBits .f32 0x358637BD#32) * g d

/-- The four pairs side by side are the attention of the eight heads. -/
theorem heads_apply (q : Vec Ideal S1x64x512 .bf16) (k v : Vec Ideal S1x640x512 .bf16) (b0 b1 b2 b3 : Vec Ideal S1x1x128x640 .f32) (B : Vec Ideal S1x1x512x640 .f32)
    (h0 : ∀ R j, b0 (ix4 0 0 R j) = B (ix4 0 0 ⟨0 + R.val, by omega⟩ j)) (h1 : ∀ R j, b1 (ix4 0 0 R j) = B (ix4 0 0 ⟨128 + R.val, by omega⟩ j))
    (h2 : ∀ R j, b2 (ix4 0 0 R j) = B (ix4 0 0 ⟨256 + R.val, by omega⟩ j)) (h3 : ∀ R j, b3 (ix4 0 0 R j) = B (ix4 0 0 ⟨384 + R.val, by omega⟩ j)) (r : Fin 64) (d : Fin 512) :
    k1_pay14 (F := Ideal) (k1_pay2 q) (k1_pay3 k) (k1_pay4 v) k1_pay5 (k1_pay10 k1_pay5 (k1_pay7 q k b0) (k1_pay8 q k b0) (k1_pay9 v))
      (k1_pay11 (k1_pay2 q) (k1_pay3 k) (k1_pay4 v) k1_pay5 b1) (k1_pay12 (k1_pay2 q) (k1_pay3 k) k1_pay5) (k1_pay13 b2) b3 (ix2 r d)
      = attend (fun r x => q (ix3 0 r x)) (fun j x => k (ix3 0 j x)) (fun j x => v (ix3 0 j x)) (fun R j => B (ix4 0 0 R j)) r d := by
  refine (pairs_apply _ _ _ _ _ _ _ _ _).trans ?_
  split
  · rename_i h
    rw [pair0_apply]
    refine pairOut_eq (fun r x => q (ix3 0 r x)) (fun j x => k (ix3 0 j x)) (fun j x => v (ix3 0 j x)) (fun R j => B (ix4 0 0 R j)) _ _ _ _ 0 rfl (by omega) (fun _ _ => ?_) (fun _ _ => ?_) (fun _ _ => ?_) h0 _ _ _ (by simp)
    all_goals simp only [Nat.zero_add]
  · split
    · rename_i h h'
      rw [pair1_apply]
      exact pairOut_eq (fun r x => q (ix3 0 r x)) (fun j x => k (ix3 0 j x)) (fun j x => v (ix3 0 j x)) (fun R j => B (ix4 0 0 R j)) _ _ _ _ 128 rfl (by omega) (fun _ _ => rfl) (fun _ _ => rfl) (fun _ _ => rfl) h1 _ _ _ (by simp only; omega)
    · split
      · exact pairOut_eq (fun r x => q (ix3 0 r x)) (fun j x => k (ix3 0 j x)) (fun j x => v (ix3 0 j x)) (fun R j => B (ix4 0 0 R j)) _ _ _ _ 256 rfl (by omega) (fun _ _ => rfl) (fun _ _ => rfl) (fun _ _ => rfl) h2 _ _ _ (by simp only; omega)
      · exact pairOut_eq (fun r x => q (ix3 0 r x)) (fun j x => k (ix3 0 j x)) (fun j x => v (ix3 0 j x)) (fun R j => B (ix4 0 0 R j)) _ _ _ _ 384 rfl (by omega) (fun _ _ => rfl) (fun _ _ => rfl) (fun _ _ => rfl) h3 _ _ _ (by simp only; omega)

/-- The whole body. -/
theorem rows_apply (q : Vec Ideal S1x64x512 .bf16) (k v : Vec Ideal S1x640x512 .bf16) (b0 b1 b2 b3 : Vec Ideal S1x1x128x640 .f32) (B : Vec Ideal S1x1x512x640 .f32) (g : Vec Ideal S1x512 .f32)
    (h0 : ∀ R j, b0 (ix4 0 0 R j) = B (ix4 0 0 ⟨0 + R.val, by omega⟩ j)) (h1 : ∀ R j, b1 (ix4 0 0 R j) = B (ix4 0 0 ⟨128 + R.val, by omega⟩ j))
    (h2 : ∀ R j, b2 (ix4 0 0 R j) = B (ix4 0 0 ⟨256 + R.val, by omega⟩ j)) (h3 : ∀ R j, b3 (ix4 0 0 R j) = B (ix4 0 0 ⟨384 + R.val, by omega⟩ j)) (r : Fin 64) (d : Fin 512) :
    k1_pay1 (F := Ideal) (k1_pay14 (F := Ideal) (k1_pay2 q) (k1_pay3 k) (k1_pay4 v) k1_pay5 (k1_pay10 k1_pay5 (k1_pay7 q k b0) (k1_pay8 q k b0) (k1_pay9 v))
      (k1_pay11 (k1_pay2 q) (k1_pay3 k) (k1_pay4 v) k1_pay5 b1) (k1_pay12 (k1_pay2 q) (k1_pay3 k) k1_pay5) (k1_pay13 b2) b3) (k1_pay15 g) (ix3 0 r d)
      = normed (attend (fun r x => q (ix3 0 r x)) (fun j x => k (ix3 0 j x)) (fun j x => v (ix3 0 j x)) (fun R j => B (ix4 0 0 R j)) r) (fun x => g (ix2 0 x)) d := by
  rw [pay1_apply]
  simp only [heads_apply q k v b0 b1 b2 b3 B h0 h1 h2 h3]
  rfl

/-- The first key of a grid point's window. -/
theorem offset : ∀ t : Fin cfg1.N, k1_off1 (grid1.coords t) = ![0, (t.val % 32 - 9) * 64, 0] :=
  (by decide +kernel : ∀ t : Fin grid1.N, _)

/-- What a grid point leaves in its output block. -/
theorem block_apply (V : (c : Dev nD) → (b : Ref sig .tc) → Buf (Elt Ideal) ((c : Thread nD τ).loc b)) (c : Dev nD) (t : Fin cfg1.N) (r : Fin 64) (d : Fin 512) :
    outsAt1 V c t (ix3 0 r d)
      = normed (attend (fun r x => iblk1 V c 0 t (ix3 0 r x)) (fun j x => iblk1 V c 1 t (ix3 0 ⟨(t.val % 32 - 9) * 64 + j.val, by omega⟩ x))
          (fun j x => iblk1 V c 2 t (ix3 0 ⟨(t.val % 32 - 9) * 64 + j.val, by omega⟩ x)) (fun R j => iblk1 V c 3 t (ix4 0 0 R j)) r) (fun x => iblk1 V c 4 t (ix2 0 x)) d := by
  unfold outsAt1
  frame_out
  refine (rows_apply _ _ _ _ _ _ _ (iblk1 V c 3 t) _ ?_ ?_ ?_ ?_ _ _).trans ?_
  · intro R j
    pointwise
  · intro R j
    pointwise
  · intro R j
    pointwise
  · intro R j
    pointwise
  have h : k1_off1 (grid1.coords t) 1 = (t.val % 32 - 9) * 64 := by rw [offset]; rfl
  have h0 : k1_off1 (grid1.coords t) 0 = 0 := by rw [offset]; rfl
  have h2 : k1_off1 (grid1.coords t) 2 = 0 := by rw [offset]; rfl
  pointwise
  simp only [h0, h, h2, Nat.zero_add]
  rfl

end Cert.KernelIdeal.AttnBlock

end
-- ==== Proof.AttnBias.lean ====
/- The tables of relative biases: what the body leaves in its output block, element by element. -/
module

public import proofs.«01_k».proof.Proof.Gen.KernelIdeal.Frame
public import Idealize.ShloMosaic.Lib.Pipeline.ValueKit
public import Idealize.ShloMosaic.Lib.Pointwise
public import Idealize.ShloMosaic.Lib.IdealHost
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.KernelIdeal.AttnBias

open Cert.KernelIdeal Cert.KernelIdeal.Gen

/-- The mask is minus infinity. -/
theorem mask : (Named.named (F := Ideal) κ "mask" 0xF149F2CA#32 : Ideal .f32) = ⊥ := by
  rfl

/-- The row of the table of relative biases that lane `X` of the base row of table `e` takes. -/
def baseRow (e X : Nat) : Nat :=
  (min (128 : ℤ) (max (-128) ((64 * e : ℤ) - (if X < 704 then (X : ℤ) else (X : ℤ) - 768))) + 128).toNat

/-- A base row's index is a row of the table. -/
theorem baseRow_lt (e X : Nat) : baseRow e X < 257 := by
  unfold baseRow
  omega

/-- The words the kernel computes a base row's index with. -/
theorem baseRow_word : ∀ (e : Fin 10) (X : Fin 768), (IntOp.addi
      (IntOp.minsi (128#32)
        (IntOp.maxsi (4294967168#32)
          (IntOp.subi (Scalar.muli (BitVec.ofNat 32 e.val) 64#32)
            (Scalar.select (IntOp.cmpi CmpIPredicate.slt (BitVec.ofNat 32 X.val) 704#32) (BitVec.ofNat 32 X.val)
              (IntOp.subi (BitVec.ofNat 32 X.val) 768#32)))))
      128#32) = BitVec.ofNat 32 (baseRow e.val X.val) := by
  decide +kernel

/-- Which keys of the window a chunk sees. -/
theorem valid_word : ∀ (e : Fin 10) (x : Fin 640), (IntOp.andi
        (IntOp.cmpi CmpIPredicate.sle (IntOp.shrsi ArithUnit.vector (BitVec.ofNat 32 x.val) 6#32) (BitVec.ofNat 32 e.val))
        (IntOp.cmpi CmpIPredicate.sge (IntOp.shrsi ArithUnit.vector (BitVec.ofNat 32 x.val) 6#32)
          (Scalar.subi (BitVec.ofNat 32 e.val) 8#32))) = BitVec.ofBool (decide (x.val / 64 ≤ e.val ∧ e.val ≤ x.val / 64 + 8)) := by
  decide +kernel

/-- Two row numbers are equal as words exactly when they are equal. -/
theorem row_word (a b : ℕ) (ha : a < 384) (hb : b < 384) : IntOp.cmpi CmpIPredicate.eq (BitVec.ofNat 32 a) (BitVec.ofNat 32 b) = BitVec.ofBool (decide (a = b)) := by
  have e : (BitVec.ofNat 32 a = BitVec.ofNat 32 b) ↔ a = b :=
    ⟨fun h => by have := congrArg BitVec.toNat h; simp only [BitVec.toNat_ofNat] at this; omega, fun h => h ▸ rfl⟩
  change BitVec.ofBool (decide (BitVec.ofNat 32 a = BitVec.ofNat 32 b)) = _
  simp only [e]

/-- A choice by a decided condition. -/
theorem select_decide {α : Type} (p : Prop) [Decidable p] (a b : α) : Scalar.select (BitVec.ofBool (decide p)) a b = if p then a else b := by
  unfold Scalar.select
  by_cases h : p <;> simp [h]

/-- A sum against an indicator is the element. -/
theorem sum_onehot (f : Fin 384 → EReal) (n : Nat) (hn : n < 384) :
    (∑ x : Fin 384, Scalar.select (IntOp.cmpi CmpIPredicate.eq (BitVec.ofNat 32 n) (BitVec.ofNat 32 x.val)) (f x) 0) = f ⟨n, hn⟩ := by
  rw [Finset.sum_eq_single ⟨n, hn⟩]
  · rw [row_word _ _ (by omega) (by omega), select_decide]
    exact if_pos rfl
  · intro b _ hb
    rw [row_word _ _ (by omega) b.isLt, select_decide]
    exact if_neg fun h => hb (Fin.ext h.symm)
  · simp

/-- A base row's lane is the table's element, when the table's row is real. -/
theorem base_apply (v : Vec Ideal S1x8x384 .f32) (i : grid0.Coords) (h : Fin 8) (X : Fin 768) (hv : ∀ J, Cert.Reals.IsReal (v (ix3 0 h J))) :
    k0_pay1 (F := Ideal) i v (ix2 h X) = v (ix3 0 h ⟨baseRow (i 1).val X.val, (baseRow_lt _ _).trans (by decide)⟩) := by
  pointwise [k0_pay1]
  have e : ∀ J, v (ix3 0 h J) - v (ix3 0 h J) = 0 := fun J => (hv J).sub_self
  simp only [e, sub_zero, baseRow_word (i 1) X, sum_onehot _ _ ((baseRow_lt (i 1).val X.val).trans (by decide : 257 < 384)), add_zero]

/-- The row of the table of relative biases that query `r` of a chunk and key `x` of the window of table `e` take. -/
def relRow (e r x : Nat) : Nat := (min (128 : ℤ) (max (-128) ((r : ℤ) - x + 64 * e)) + 128).toNat

/-- Its index is a row of the table. -/
theorem relRow_lt (e r x : Nat) : relRow e r x < 257 := by
  unfold relRow
  omega

/-- What table `e` holds for query `r` and key `x`, from a head's column of the table of relative biases. -/
def entry (B : Fin 384 → EReal) (e r x : Nat) : EReal :=
  if x / 64 ≤ e ∧ e ≤ x / 64 + 8 then B ⟨relRow e r x, (relRow_lt _ _ _).trans (by decide)⟩ else ⊥

/-- The rolled base row, masked, is the table's row. -/
theorem entry_eq (B : Fin 384 → EReal) (f : Fin 768 → EReal) (e : Fin 10) (hf : ∀ X, f X = B ⟨baseRow e.val X.val, (baseRow_lt _ _).trans (by decide)⟩) (r : Fin 64) (x : Fin 640) :
    Scalar.select
      (IntOp.andi
        (IntOp.cmpi CmpIPredicate.sle (IntOp.shrsi ArithUnit.vector (BitVec.ofNat 32 x.val) 6#32) (BitVec.ofNat 32 e.val))
        (IntOp.cmpi CmpIPredicate.sge (IntOp.shrsi ArithUnit.vector (BitVec.ofNat 32 x.val) 6#32)
          (Scalar.subi (BitVec.ofNat 32 e.val) 8#32)))
      (if h : (x.val + 1024 - r.val % 1024) % 1024 < 704 then f ⟨(x.val + 1024 - r.val % 1024) % 1024, by omega⟩
      else
        if h : (x.val + 1024 - r.val % 1024) % 1024 - 704 < 256 then 0
        else f ⟨704 + ((x.val + 1024 - r.val % 1024) % 1024 - 704 - 256), by omega⟩)
      (Named.named (F := Ideal) (φ := .f32) κ "mask" 4048155338#32) = entry B e.val r.val x.val := by
  rw [valid_word, select_decide, mask]
  unfold entry
  split
  · simp only [hf]
    split
    · refine congrArg B (Fin.ext ?_)
      simp only [baseRow, relRow]
      omega
    · split
      · omega
      · refine congrArg B (Fin.ext ?_)
        simp only [baseRow, relRow]
        omega
  · rfl

/-- The same entry by the number of the block's row. -/
theorem entry_at (x0 : Vec Ideal S1x8x384 .f32) (e : Nat) (H : Fin 8) (r : Fin 64) (x' : Fin 640) (R : Fin 512) (x : Fin 640) (hR : R.val = 64 * H.val + r.val) (hx : x.val = x'.val) :
    entry (fun J => x0 (ix3 0 H J)) e r.val x'.val = entry (fun J => x0 (ix3 0 ⟨R.val / 64, by omega⟩ J)) e (R.val % 64) x.val := by
  have e1 : (⟨R.val / 64, by omega⟩ : Fin 8) = H := Fin.ext (by simp only; omega)
  have e2 : R.val % 64 = r.val := by omega
  rw [e1, e2, hx]

/-- What the body leaves in its output block, when the block's table is real. -/
theorem out_apply (i : grid0.Coords) (x0 : Vec Ideal S1x8x384 .f32) (hx : ∀ h J, Cert.Reals.IsReal (x0 (ix3 0 h J))) (R : Fin 512) (x : Fin 640) :
    out0_1 i x0 (ix4 0 0 R x) = entry (fun J => x0 (ix3 0 ⟨R.val / 64, by omega⟩ J)) (i 1).val (R.val % 64) x.val := by
  have key := fun (h : Fin 8) (r : Fin 64) (x : Fin 640) => entry_eq (fun J => x0 (ix3 0 h J)) (fun X => k0_pay1 (F := Ideal) i x0 (ix2 h X)) (i 1) (fun X => base_apply x0 i h X (hx h)) r x
  unfold_out out0_1
  frame_out
  clear hx
  canon_tiles z w
  all_goals pointwise [k0_pay6, k0_pay7, k0_pay8, k0_pay9, k0_pay10, k0_pay11, k0_pay12, k0_pay13, k0_pay14, k0_pay15, k0_pay2, k0_pay3, k0_pay4, k0_pay5]
  · exact (key 7 (z 2) (z 3)).trans (entry_at _ _ 7 _ _ _ _ (w2.trans (by simp)) w3)
  · exact (key 6 (z 2) (z 3)).trans (entry_at _ _ 6 _ _ _ _ (w2.trans (by simp)) w3)
  · exact (key 5 (z 2) (z 3)).trans (entry_at _ _ 5 _ _ _ _ (w2.trans (by simp)) w3)
  · exact (key 4 (z 2) (z 3)).trans (entry_at _ _ 4 _ _ _ _ (w2.trans (by simp)) w3)
  · exact (key 3 (z 2) (z 3)).trans (entry_at _ _ 3 _ _ _ _ (w2.trans (by simp)) w3)
  · exact (key 2 (z 2) (z 3)).trans (entry_at _ _ 2 _ _ _ _ (w2.trans (by simp)) w3)
  · exact (key 1 (z 2) (z 3)).trans (entry_at _ _ 1 _ _ _ _ (w2.trans (by simp)) w3)
  · exact (key 0 (z 2) (z 3)).trans (entry_at _ _ 0 _ _ _ _ (w2.trans (by simp)) w3)

end Cert.KernelIdeal.AttnBias

end
-- ==== Proof.AttnValue.lean ====
/- The attention: what the kernel leaves in its result array, element by element. -/
module

public import proofs.«01_k».proof.Proof.AttnBlock
public import proofs.«01_k».proof.Proof.AttnBias

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.KernelIdeal.AttnBlock

variable (m : (ℓ : Loc nD τ sig) → Buf (Elt Ideal) ℓ) (ρ : Dev nD → PrngReg)

/-- The block index of the tables' windows at every grid point, and the grid point's table. -/
theorem idx0 : ∀ t : Fin cfg0.N, win0_0.index t = ![t.val / 10, 0, 0] ∧ win0_1.index t = ![t.val / 10, t.val % 10, 0, 0] ∧ (grid0.coords t 1).val = t.val % 10 ∧ t.val < 20 :=
  (by decide +kernel : ∀ t : Fin grid0.N, _)

/-- The block index of the attention's windows at every grid point. -/
theorem idx1 : ∀ t : Fin cfg1.N, win1_0.index t = ![t.val / 32, t.val % 32, 0] ∧ win1_1.index t = ![t.val / 32, 0, 1] ∧ win1_2.index t = ![t.val / 32, 0, 2]
    ∧ win1_3.index t = ![0, min (t.val % 32) 9, 0, 0] ∧ win1_4.index t = ![0, 0] ∧ win1_5.index t = ![t.val / 32, t.val % 32, 0] ∧ t.val < 256 :=
  (by decide +kernel : ∀ t : Fin grid1.N, _)

/-- The table of relative biases as the host prepares it. -/
theorem entry1 (c : Dev nD) : V2 m ρ c main_v1 = pad S2x8x384 ![0, 0, 0] ![0, 0, 127] ![0, 0, 0] (transpose S2x8x257 [0, 2, 1] (m ((c : Thread nD τ).loc main_arg1)) transposes_S2x257x8_S2x8x257_0_2_1)
    (sitofp (F := Ideal) FTy.f32 (constantI S_ 32 0#32)) pads_S2x8x257_S2x8x384_000_000_01270 h_S_ := by
  unfold V2 W2 W1
  simp only [StableHlo.after_cons, StableHlo.after_nil]
  after_results_simp
  rfl

/-- The gain as the host prepares it. -/
theorem entry3 (c : Dev nD) : V4 m ρ c main_v3 = shapeCast S1x512 (m ((c : Thread nD τ).loc main_arg2)) shapeCasts_S512_S1x512 := by
  rw [← W3_args m ρ c main_arg2 (by decide)]
  unfold V4 W4
  simp only [StableHlo.after_cons, StableHlo.after_nil]
  after_results_simp
  rfl

/-- Zero as a float. -/
theorem sitofp_zero : (FloatOps.sitofp (F := Ideal) FTy.f32 (0#32) : EReal) = 0 := by
  show ((((0#32).toInt : ℝ)) : EReal) = 0
  simp

/-- A head's column of a layer's table of relative biases, padded with zeros. -/
def column (x1 : Vec Ideal S2x257x8 .f32) (l : Fin 2) (h : Fin 8) (J : Fin 384) : EReal :=
  if k : J.val < 257 then x1 (ix3 l ⟨J.val, k⟩ h) else 0

/-- The padded table, element by element. -/
theorem padded (x1 : Vec Ideal S2x257x8 .f32) (l : Fin 2) (h : Fin 8) (J : Fin 384) :
    pad S2x8x384 ![0, 0, 0] ![0, 0, 127] ![0, 0, 0] (transpose S2x8x257 [0, 2, 1] x1 transposes_S2x257x8_S2x8x257_0_2_1)
      (sitofp (F := Ideal) FTy.f32 (constantI S_ 32 0#32)) pads_S2x8x257_S2x8x384_000_000_01270 h_S_ (ix3 l h J) = column x1 l h J := by
  pointwise
  rw [sitofp_zero]
  rfl

/-- The tables' input block, read from the argument array. -/
theorem tableBlock (c : Dev nD) (t : Fin cfg0.N) (h : Fin 8) (J : Fin 384) :
    iblk0 (V2 m ρ) c 0 t (ix3 (0 : Fin 1) h J) = column (m ((c : Thread nD τ).loc main_arg1)) ⟨t.val / 10, by have := idx0 t; omega⟩ h J := by
  have w := idx0 t
  have e : ((cfg0.win 0).blk t).view.emb (ix3 (0 : Fin 1) h J) = (ix3 ⟨t.val / 10, by omega⟩ h J : S2x8x384.Idx) := by blk_ext [iblk0, idx0 t]
  refine (congrArg (V2 m ρ c main_v1) e).trans ((congrFun (entry1 m ρ c) _).trans ?_)
  exact padded _ _ h J

/-- The grid point that writes table `e` of layer `l`. -/
def point (l : Fin 2) (e : Fin 10) : Fin cfg0.N := ⟨10 * l.val + e.val, (show 10 * l.val + e.val < 20 by omega)⟩

/-- The tables as one array. -/
def tableArray (c : Dev nD) : Vec Ideal S2x10x512x640 .f32 := fun y => out0_1 (grid0.coords (point (y 0) (y 1))) (iblk0 (V2 m ρ) c 0 (point (y 0) (y 1))) (ix4 0 0 (y 2) (y 3))

/-- The tables after their call: what each grid point left. -/
theorem tables (c : Dev nD) (l : Fin 2) (e : Fin 10) (R : Fin 512) (x : Fin 640) :
    (dat0 (V2 m ρ) c).arrAt 1 cfg0.N (ix4 l e R x) = out0_1 (grid0.coords (point l e)) (iblk0 (V2 m ρ) c 0 (point l e)) (ix4 0 0 R x) := by
  have key : (dat0 (V2 m ρ) c).arrAt 1 cfg0.N = tableArray m ρ c := by
    refine (dat0 (V2 m ρ) c).arrAt_eq_of_covers 1 _ (by decide +kernel) fun t _ y => ?_
    blk_simp
    rw [after0_1]
    idx_vars y
    obtain rfl : y0 = 0 := Subsingleton.elim _ _
    obtain rfl : y1 = 0 := Subsingleton.elim _ _
    have w := idx0 t
    have e : ((cfg0.win 1).blk t).view.emb (ix4 0 0 y2 y3) = (ix4 ⟨t.val / 10, by omega⟩ ⟨t.val % 10, by omega⟩ y2 y3 : S2x10x512x640.Idx) := by blk_ext [iblk0, idx0 t]
    have e' : point ⟨t.val / 10, by omega⟩ ⟨t.val % 10, by omega⟩ = t := Fin.ext (by simp only [point]; omega)
    exact ((congrArg (tableArray m ρ c) e).trans (by unfold tableArray; exact congrArg (fun s => out0_1 (grid0.coords s) (iblk0 (V2 m ρ) c 0 s) (ix4 0 0 y2 y3)) e')).symm
  rw [key]
  rfl

/-- The tables of the first layer, when its table of relative biases is real. -/
theorem tables_apply (c : Dev nD) (hb : ∀ J h, Cert.Reals.IsReal ((m ((c : Thread nD τ).loc main_arg1)) (ix3 (0 : Fin 2) J h))) (e : Fin 10) (R : Fin 512) (x : Fin 640) :
    (dat0 (V2 m ρ) c).arrAt 1 cfg0.N (ix4 (0 : Fin 2) e R x) = AttnBias.entry (column (m ((c : Thread nD τ).loc main_arg1)) 0 ⟨R.val / 64, by omega⟩) e.val (R.val % 64) x.val := by
  have hp : (⟨(point 0 e).val / 10, by have := idx0 (point 0 e); omega⟩ : Fin 2) = 0 := Fin.ext (by simp only [point]; simp <;> omega)
  have he : (grid0.coords (point 0 e) 1).val = e.val := (idx0 (point 0 e)).2.2.1.trans (by simp only [point]; simp <;> omega)
  rw [tables, AttnBias.out_apply]
  · simp only [tableBlock, hp, he]
  · intro h J
    rw [tableBlock, hp]
    unfold column
    split
    · exact hb _ _
    · exact Cert.Reals.isReal_zero

/-- The attention's blocks, read from the argument arrays and the tables. -/
theorem queries (c : Dev nD) (t : Fin cfg1.N) (r : Fin 64) (x : Fin 512) :
    iblk1 (V4 m ρ) c 0 t (ix3 (0 : Fin 1) r x) = (m ((c : Thread nD τ).loc main_arg0)) (ix3 ⟨t.val / 32, by have := idx1 t; omega⟩ ⟨64 * (t.val % 32) + r.val, by omega⟩ ⟨x.val, by omega⟩) := by
  have w := idx1 t
  rw [← W4_args m ρ c main_arg0 (by decide)]
  blk_simp [iblk1]
  blk_ext [iblk1, idx1 t]

/-- The keys. -/
theorem keys (c : Dev nD) (t : Fin cfg1.N) (j : Fin 2048) (x : Fin 512) :
    iblk1 (V4 m ρ) c 1 t (ix3 (0 : Fin 1) j x) = (m ((c : Thread nD τ).loc main_arg0)) (ix3 ⟨t.val / 32, by have := idx1 t; omega⟩ j ⟨512 + x.val, by omega⟩) := by
  have w := idx1 t
  rw [← W4_args m ρ c main_arg0 (by decide)]
  blk_simp [iblk1]
  blk_ext [iblk1, idx1 t]

/-- The values. -/
theorem values (c : Dev nD) (t : Fin cfg1.N) (j : Fin 2048) (x : Fin 512) :
    iblk1 (V4 m ρ) c 2 t (ix3 (0 : Fin 1) j x) = (m ((c : Thread nD τ).loc main_arg0)) (ix3 ⟨t.val / 32, by have := idx1 t; omega⟩ j ⟨1024 + x.val, by omega⟩) := by
  have w := idx1 t
  rw [← W4_args m ρ c main_arg0 (by decide)]
  blk_simp [iblk1]
  blk_ext [iblk1, idx1 t]

/-- The biases. -/
theorem biases (c : Dev nD) (t : Fin cfg1.N) (R : Fin 512) (j : Fin 640) :
    iblk1 (V4 m ρ) c 3 t (ix4 (0 : Fin 1) (0 : Fin 1) R j) = (dat0 (V2 m ρ) c).arrAt 1 cfg0.N (ix4 (0 : Fin 2) ⟨min (t.val % 32) 9, by omega⟩ R j) := by
  have w := idx1 t
  have e : ((cfg1.win 3).blk t).view.emb (ix4 (0 : Fin 1) (0 : Fin 1) R j) = (ix4 (0 : Fin 2) ⟨min (t.val % 32) 9, by omega⟩ R j : S2x10x512x640.Idx) := by blk_ext [iblk1, idx1 t]
  refine (congrArg (V4 m ρ c main_v2) e).trans (congrFun ?_ _)
  exact (W4_of m ρ c main_v2 (by decide)).trans (W3_arr m ρ c 1)

/-- The gain. -/
theorem gain (c : Dev nD) (t : Fin cfg1.N) (x : Fin 512) : iblk1 (V4 m ρ) c 4 t (ix2 (0 : Fin 1) x) = (m ((c : Thread nD τ).loc main_arg2)) (ix1 x) := by
  blk_simp [iblk1]
  refine (congrFun (entry3 m ρ c) _).trans ?_
  pointwise
  blk_ext [idx1 t]

/-- The kernel's result at row `64 n + r` of sequence `b`, element `d`. -/
def result (x0 : Vec Ideal S8x2048x1536 .bf16) (x1 : Vec Ideal S2x257x8 .f32) (x2 : Vec Ideal S512 .f32) (b : Fin 8) (n : Fin 32) (r : Fin 64) (d : Fin 512) : EReal :=
  normed (attend (fun r x => x0 (ix3 b ⟨64 * n.val + r.val, by omega⟩ ⟨x.val, by omega⟩)) (fun j x => x0 (ix3 b ⟨(n.val - 9) * 64 + j.val, by omega⟩ ⟨512 + x.val, by omega⟩))
    (fun j x => x0 (ix3 b ⟨(n.val - 9) * 64 + j.val, by omega⟩ ⟨1024 + x.val, by omega⟩))
    (fun R j => AttnBias.entry (column x1 0 ⟨R.val / 64, by omega⟩) (min n.val 9) (R.val % 64) j.val) r) (fun x => x2 (ix1 x)) d

/-- The kernel's result as one array. -/
def resultArray (x0 : Vec Ideal S8x2048x1536 .bf16) (x1 : Vec Ideal S2x257x8 .f32) (x2 : Vec Ideal S512 .f32) : Vec Ideal S8x2048x512 .bf16 :=
  fun y => result x0 x1 x2 (y 0) ⟨(y 1).val / 64, by have := (y 1).isLt; change _ < 2048 at this; omega⟩ ⟨(y 1).val % 64, by omega⟩ (y 2)

/-- One row of one block. -/
theorem rowOf (c : Dev nD) (hb : ∀ J h, Cert.Reals.IsReal ((m ((c : Thread nD τ).loc main_arg1)) (ix3 (0 : Fin 2) J h))) (t : Fin cfg1.N) (r : Fin 64) (d : Fin 512) :
    outsAt1 (V4 m ρ) c t (ix3 (0 : Fin 1) r d) = result (m ((c : Thread nD τ).loc main_arg0)) (m ((c : Thread nD τ).loc main_arg1)) (m ((c : Thread nD τ).loc main_arg2)) ⟨t.val / 32, by have := idx1 t; omega⟩ ⟨t.val % 32, by omega⟩ r d := by
  refine (block_apply _ c t r d).trans ?_
  unfold result
  simp only [queries, keys, values, biases, gain, tables_apply m ρ c hb]

/-- The result array after the attention's call. -/
theorem final (c : Dev nD) (hb : ∀ J h, Cert.Reals.IsReal ((m ((c : Thread nD τ).loc main_arg1)) (ix3 (0 : Fin 2) J h))) :
    (dat1 (V4 m ρ) c).arrAt 5 cfg1.N = resultArray (m ((c : Thread nD τ).loc main_arg0)) (m ((c : Thread nD τ).loc main_arg1)) (m ((c : Thread nD τ).loc main_arg2)) := by
  refine (dat1 (V4 m ρ) c).arrAt_eq_of_covers 5 _ (by decide +kernel) fun t _ y => ?_
  blk_simp
  rw [after1_5]
  idx_vars y
  obtain rfl : y0 = 0 := Subsingleton.elim _ _
  have w := idx1 t
  have e : ((cfg1.win 5).blk t).view.emb (ix3 (0 : Fin 1) y1 y2) = (ix3 ⟨t.val / 32, by omega⟩ ⟨64 * (t.val % 32) + y1.val, by omega⟩ y2 : S8x2048x512.Idx) := by blk_ext [iblk1, idx1 t]
  refine (rowOf m ρ c hb t y1 y2).trans ?_
  refine ((congrArg (resultArray (m ((c : Thread nD τ).loc main_arg0)) (m ((c : Thread nD τ).loc main_arg1)) (m ((c : Thread nD τ).loc main_arg2))) e).trans ?_).symm
  unfold resultArray
  congr 1 <;> exact Fin.ext (by simp <;> omega)

end Cert.KernelIdeal.AttnValue

end
-- ==== Proof.AttnRef.lean ====
/- The attention's reference: what each of its steps is, element by element. -/
module

public import proofs.«01_k».proof.Proof.Gen.ReferenceIdeal.Read
public import Idealize.ShloMosaic.Lib.Pointwise

@[expose] public section

set_option maxRecDepth 16384

noncomputable section

open Idealize.ShloMosaic Idealize.ShloMosaic.TcCoe

namespace Cert.ReferenceIdeal.AttnRef

open Cert.ReferenceIdeal Cert.ReferenceIdeal.Gen Cert.ReferenceIdeal.Read

variable (x0 : Vec Ideal S8x2048x1536 .bf16) (x1 : Vec Ideal S2x257x8 .f32) (x2 : Vec Ideal S512 .f32)

/-- The gather of chunks, at one element: the chunk the word names, clamped into the padded sequence. -/
theorem chunk_gather {α : Type} (X : S8x40x64x8x64.Idx → α) (I : IVec S32x9x1 32) (b : Fin 8) (n : Fin 32) (c : Fin 9) (r : Fin 64) (h : Fin 8) (x : Fin 64) :
    Host.gather gather_S8x40x64x8x64_S32x9x1_S8x32x9x64x8x64_0345_1_n_n_1_2_8164864 X I (ix6 b n c r h x)
      = X (ix5 b ⟨min (I (ix3 n c (0 : Fin 1))).toInt.toNat 39, by omega⟩ r h x) := by
  unfold Host.gather
  refine congrArg X (funext fun a => Fin.ext ?_)
  have hs : GatherDims.siIdx gather_S8x40x64x8x64_S32x9x1_S8x32x9x64x8x64_0345_1_n_n_1_2_8164864 (ix6 b n c r h x) ⟨0, by decide⟩ = ix3 n c (0 : Fin 1) := by
    funext k
    refine Fin.ext ?_
    match k with
    | ⟨0, _⟩ => rfl
    | ⟨1, _⟩ => rfl
    | ⟨2, _⟩ => rfl
  match a with
  | ⟨0, _⟩ => exact Nat.zero_add _
  | ⟨1, _⟩ => exact congrArg (fun k => min (I k).toInt.toNat 39) hs
  | ⟨2, _⟩ => exact Nat.zero_add _
  | ⟨3, _⟩ => exact Nat.zero_add _
  | ⟨4, _⟩ => exact Nat.zero_add _

/-- The gather of biases, at one element: the row the word names, clamped into the table. -/
theorem bias_gather {α : Type} (X : S257x8.Idx → α) (I : IVec S64x576x1 32) (r : Fin 64) (j : Fin 576) (h : Fin 8) :
    Host.gather gather_S257x8_S64x576x1_S64x576x8_2_0_n_n_0_2_18 X I (ix3 r j h) = X (ix2 ⟨min (I (ix3 r j (0 : Fin 1))).toInt.toNat 256, by omega⟩ h) := by
  unfold Host.gather
  refine congrArg X (funext fun a => Fin.ext ?_)
  have hs : GatherDims.siIdx gather_S257x8_S64x576x1_S64x576x8_2_0_n_n_0_2_18 (ix3 r j h) ⟨0, by decide⟩ = ix3 r j (0 : Fin 1) := by
    funext k
    refine Fin.ext ?_
    match k with
    | ⟨0, _⟩ => rfl
    | ⟨1, _⟩ => rfl
    | ⟨2, _⟩ => rfl
  match a with
  | ⟨0, _⟩ => exact congrArg (fun k => min (I k).toInt.toNat 256) hs
  | ⟨1, _⟩ => exact Nat.zero_add _

/-- A band's chunk number is not negative, so the wrapped word is the number. -/
theorem wrapped : ∀ (n : Fin 32) (c : Fin 9), (Scalar.select (IntOp.cmpi CmpIPredicate.slt (IntOp.addi (BitVec.ofNat 32 n.val) (BitVec.ofNat 32 c.val)) 0#32)
      (IntOp.addi (IntOp.addi (BitVec.ofNat 32 n.val) (BitVec.ofNat 32 c.val)) 40#32)
      (IntOp.addi (BitVec.ofNat 32 n.val) (BitVec.ofNat 32 c.val))).toInt.toNat = n.val + c.val := by
  decide +kernel

/-- The chunk word of the keys' gather. -/
theorem keyWord (n : Fin 32) (c : Fin 9) : (val_main_v23 (F := Ideal) (ix3 n c (0 : Fin 1))).toInt.toNat = n.val + c.val := by
  refine Eq.trans ?_ (wrapped n c)
  pointwise [val_main_v23, val_main_v22, val_main_v21, val_main_v20, val_main_c_2, val_main_v19, val_main_v18, val_main_c_1, val_main_v17, val_main_v16, val_main_v15, val_main_v14, val_main_v13, val_main_v12, val_main_v11]

/-- The chunk word of the values' gather. -/
theorem valueWord (n : Fin 32) (c : Fin 9) : (val_main_v31 (F := Ideal) (ix3 n c (0 : Fin 1))).toInt.toNat = n.val + c.val := by
  refine Eq.trans ?_ (wrapped n c)
  pointwise [val_main_v31, val_main_v30, val_main_v29, val_main_v28, val_main_c_4, val_main_v27, val_main_v26, val_main_c_3, val_main_v17, val_main_v16, val_main_v15, val_main_v14, val_main_v13, val_main_v12, val_main_v11]

/-- Zero as a float. -/
theorem sitofp_zero : (FloatOps.sitofp (F := Ideal) FTy.f32 (0#32) : EReal) = 0 := by
  show ((((0#32).toInt : ℝ)) : EReal) = 0
  simp

/-- Key or value `j` of the band of chunk `n`, one lane: zero before the sequence's start, else the array's row. -/
def band (o : Fin 1025) (b : Fin 8) (n : Fin 32) (j : Fin 576) (d : Fin 512) : EReal :=
  if k : 8 ≤ n.val + j.val / 64 then x0 (ix3 b ⟨64 * n.val + j.val - 512, by omega⟩ ⟨o.val + d.val, by omega⟩) else 0

/-- A head's lane. -/
def lane (h : Fin 8) (x : Fin 64) : Fin 512 := ⟨64 * h.val + x.val, by omega⟩

/-- The keys of a band. -/
theorem keyBand (b : Fin 8) (n : Fin 32) (j : Fin 576) (h : Fin 8) (x : Fin 64) : val_main_v25 (F := Ideal) x0 (ix5 b n j h x) = band x0 512 b n j (lane h x) := by
  have e : val_main_v25 (F := Ideal) x0 (ix5 b n j h x) = val_main_v24 (F := Ideal) x0 (ix6 b n ⟨j.val / 64, by omega⟩ ⟨j.val % 64, by omega⟩ h x) := by
    pointwise [val_main_v25]
  rw [e]
  unfold val_main_v24
  rw [chunk_gather]
  simp only [keyWord]
  pointwise [val_main_v9, val_main_v7, val_main_v2, val_main_v0, val_main_call0_v0, val_main_c]
  rw [sitofp_zero]
  unfold band lane
  by_cases k : 8 ≤ n.val + j.val / 64
  · rw [dif_pos ⟨⟨by omega, by omega⟩, by omega⟩, dif_pos k]
    exact congrArg x0 (congrArg₂ (ix3 b) (Fin.ext (by simp only []; omega)) (Fin.ext (by simp only []; omega)))
  · rw [dif_neg (by omega), dif_neg k]

/-- The values of a band. -/
theorem valueBand (b : Fin 8) (n : Fin 32) (j : Fin 576) (h : Fin 8) (x : Fin 64) : val_main_v33 (F := Ideal) x0 (ix5 b n j h x) = band x0 1024 b n j (lane h x) := by
  have e : val_main_v33 (F := Ideal) x0 (ix5 b n j h x) = val_main_v32 (F := Ideal) x0 (ix6 b n ⟨j.val / 64, by omega⟩ ⟨j.val % 64, by omega⟩ h x) := by
    pointwise [val_main_v33]
  rw [e]
  unfold val_main_v32
  rw [chunk_gather]
  simp only [valueWord]
  pointwise [val_main_v10, val_main_v8, val_main_v3, val_main_v0, val_main_call1_v0, val_main_c_0]
  rw [sitofp_zero]
  unfold band lane
  by_cases k : 8 ≤ n.val + j.val / 64
  · rw [dif_pos ⟨⟨by omega, by omega⟩, by omega⟩, dif_pos k]
    exact congrArg x0 (congrArg₂ (ix3 b) (Fin.ext (by simp only []; omega)) (Fin.ext (by simp only []; omega)))
  · rw [dif_neg (by omega), dif_neg k]

/-- The row of the table of relative biases for a distance. -/
def rel (r j : Nat) : Nat := (min (128 : ℤ) (max (-128) ((r : ℤ) - j + 512)) + 128).toNat

/-- The row is in the table. -/
theorem rel_lt (r j : Nat) : rel r j < 257 := by
  unfold rel
  omega

/-- The row of the table of relative biases, from the words. -/
theorem rowWord : ∀ (r : Fin 64) (j : Fin 576), (BitVec.toInt (Scalar.select
      (IntOp.cmpi CmpIPredicate.slt (IntOp.addi (IntOp.minsi 128#32 (IntOp.maxsi 4294967168#32 (IntOp.addi (IntOp.subi (BitVec.ofNat 32 r.val) (BitVec.ofNat 32 j.val)) 512#32))) 128#32) 0#32)
      (IntOp.addi (IntOp.addi (IntOp.minsi 128#32 (IntOp.maxsi 4294967168#32 (IntOp.addi (IntOp.subi (BitVec.ofNat 32 r.val) (BitVec.ofNat 32 j.val)) 512#32))) 128#32) 257#32)
      (IntOp.addi (IntOp.minsi 128#32 (IntOp.maxsi 4294967168#32 (IntOp.addi (IntOp.subi (BitVec.ofNat 32 r.val) (BitVec.ofNat 32 j.val)) 512#32))) 128#32))).toNat
      = rel r.val j.val := by
  decide +kernel

/-- The row of the table of relative biases that query row `r` and band key `j` read. -/
theorem biasRow (r : Fin 64) (j : Fin 576) : (val_main_v54 (F := Ideal) (ix3 r j (0 : Fin 1))).toInt.toNat = rel r.val j.val := by
  refine Eq.trans ?_ (rowWord r j)
  pointwise [val_main_v54, val_main_v53, val_main_v52, val_main_v51, val_main_c_10, val_main_v50, val_main_v49, val_main_c_9, val_main_v48, val_main_v47, val_main_c_8, val_main_v46, val_main_call2_v4, val_main_call2_v3, val_main_c_7, val_main_call2_v2, val_main_call2_v1, val_main_call2_v0, val_main_c_6, val_main_v45, val_main_v44, val_main_c_5, val_main_v43, val_main_v42, val_main_v41, val_main_v40, val_main_v39, val_main_v38, val_main_v37]
  rfl

/-- The bias of query row `r` and band key `j`. -/
theorem biasOf (r : Fin 64) (j : Fin 576) (h : Fin 8) :
    val_main_v55 (F := Ideal) x1 (ix3 r j h) = x1 (ix3 (0 : Fin 2) ⟨rel r.val j.val, rel_lt _ _⟩ h) := by
  unfold val_main_v55
  rw [bias_gather]
  have e : (⟨min (val_main_v54 (F := Ideal) (ix3 r j (0 : Fin 1))).toInt.toNat 256, by omega⟩ : Fin 257) = ⟨rel r.val j.val, rel_lt _ _⟩ :=
    Fin.ext (by show min _ 256 = _; rw [biasRow]; exact Nat.min_eq_left (Nat.le_of_lt_succ (rel_lt _ _)))
  rw [e]
  pointwise [val_main_v5, val_main_v4]

/-- A band's key is before the sequence's start or not, from the words. -/
theorem validWord : ∀ (n : Fin 32) (c : Fin 9), IntOp.cmpi CmpIPredicate.sge (IntOp.addi (BitVec.ofNat 32 n.val) (BitVec.ofNat 32 c.val)) 8#32 = BitVec.ofBool (decide (8 ≤ n.val + c.val)) := by
  decide +kernel

/-- A choice by a decided word. -/
theorem select_ofBool (p : Prop) [Decidable p] (a b : EReal) : Scalar.select (BitVec.ofBool (decide p)) a b = if p then a else b := by
  by_cases h : p <;> simp [h, Scalar.select]

/-- The least word is minus infinity. -/
theorem negInf : Ideal.ofBits FTy.f32 4286578688#32 = ⊥ := by decide +kernel

/-- The score of query row `r` and band key `j`: minus infinity before the sequence's start. -/
theorem score (b : Fin 8) (n : Fin 32) (h : Fin 8) (r : Fin 64) (j : Fin 576) : val_main_v65 (F := Ideal) x0 x1 (ix5 b n h r j) =
    if 8 ≤ n.val + j.val / 64 then (∑ x : Fin 64, x0 (ix3 b ⟨64 * n.val + r.val, by omega⟩ ⟨64 * h.val + x.val, by omega⟩) * band x0 512 b n j (lane h x)) * Ideal.ofBits FTy.f32 1040187392#32
      + x1 (ix3 (0 : Fin 2) ⟨rel r.val j.val, rel_lt _ _⟩ h) else ⊥ := by
  rw [← biasOf x1 r j h, ← select_ofBool, ← validWord n ⟨j.val / 64, by omega⟩]
  simp only [← keyBand]
  pointwise [val_main_v65, val_main_call3_v2, val_main_call3_v1, val_main_call3_v0, val_main_cst_12, val_main_v64, val_main_v63, val_main_v62, val_main_v61, val_main_v60, val_main_v59, val_main_v58, val_main_v57, val_main_c_11, val_main_v56, val_main_v36, val_main_v35, val_main_cst, val_main_v34, val_main_v6, val_main_v1, val_main_v0, val_main_v17, val_main_v16, val_main_v15, val_main_v14, val_main_v13, val_main_v12, val_main_v11]
  rw [show (id (constant (F := Ideal) S_ FTy.f32 4286578688#32) ix0 : EReal) = ⊥ from negInf]
  simp only [Nat.mul_comm n.val 64, Nat.mul_comm h.val 64]

end Cert.ReferenceIdeal.AttnRef

end
-- ==== Proof.AttnNorm.lean ====
/- The attention's reference: its softmax and its norm, element by element. -/
module

public import proofs.«01_k».proof.Proof.Gen.ReferenceIdeal.Read
public import Idealize.ShloMosaic.Lib.Pointwise

@[expose] public section

set_option maxRecDepth 16384

noncomputable section

open Idealize.ShloMosaic Idealize.ShloMosaic.TcCoe

namespace Cert.ReferenceIdeal.AttnNorm

open Cert.ReferenceIdeal Cert.ReferenceIdeal.Gen Cert.ReferenceIdeal.Read

variable (x0 : Vec Ideal S8x2048x1536 .bf16) (x1 : Vec Ideal S2x257x8 .f32) (x2 : Vec Ideal S512 .f32)

/-- The greatest of a row. -/
theorem rowMax (X : Vec Ideal S8x32x8x64x576 .f32) (b : Fin 8) (n : Fin 32) (h : Fin 8) (r : Fin 64) :
    Host.reduce FloatOps.maximumf X (constant (F := Ideal) S_ .f32 0xFF800000#32) reducesTo_S8x32x8x64x576_S8x32x8x64_d4 h_S_ (ix4 b n h r)
      = Finset.fold max (Ideal.ofBits FTy.f32 4286578688#32) (fun j => X (ix5 b n h r j)) Finset.univ := by
  pointwise

/-- The greatest score of a query row. -/
def topScore (b : Fin 8) (n : Fin 32) (h : Fin 8) (r : Fin 64) : EReal :=
  max (Ideal.ofBits FTy.f32 4286578688#32) (Finset.fold max (Ideal.ofBits FTy.f32 4286578688#32) (fun j : Fin 576 => val_main_v65 (F := Ideal) x0 x1 (ix5 b n h r j)) Finset.univ)

/-- A row's number, spread over the keys. -/
theorem spread (Y : Vec Ideal S8x32x8x64 .f32) (b : Fin 8) (n : Fin 32) (h : Fin 8) (r : Fin 64) (j : Fin 576) :
    broadcastInDim S8x32x8x64x576 ![0, 1, 2, 3, 4] bcast_S8x32x8x64x1_S8x32x8x64x576_0_1_2_3_4 (broadcastInDim S8x32x8x64x1 ![0, 1, 2, 3] bcast_S8x32x8x64_S8x32x8x64x1_0_1_2_3 Y) (ix5 b n h r j)
      = Y (ix4 b n h r) := by
  pointwise

/-- The greater of two arrays' numbers. -/
theorem greaterOf (A B : Vec Ideal S8x32x8x64 .f32) (i : S8x32x8x64.Idx) : (maximumf (F := Ideal) (φ := .f32) A B) i = (max (A i) (B i) : EReal) := by
  pointwise

/-- The least number, everywhere. -/
theorem bottom (i : S8x32x8x64.Idx) : val_main_v67 (F := Ideal) i = Ideal.ofBits FTy.f32 4286578688#32 := by
  pointwise [val_main_v67, val_main_cst_14]

/-- The greatest score, spread over the keys. -/
theorem topOf (b : Fin 8) (n : Fin 32) (h : Fin 8) (r : Fin 64) (j : Fin 576) : val_main_v70 (F := Ideal) x0 x1 (ix5 b n h r j) = topScore x0 x1 b n h r := by
  unfold val_main_v70 val_main_v69 val_main_v68
  rw [spread, greaterOf, bottom]
  unfold val_main_v66 val_main_cst_13 topScore
  rw [rowMax]

/-- The exponential of a score less the greatest. -/
theorem expo (b : Fin 8) (n : Fin 32) (h : Fin 8) (r : Fin 64) (j : Fin 576) :
    val_main_v72 (F := Ideal) x0 x1 (ix5 b n h r j) = Ideal.exp (val_main_v65 (F := Ideal) x0 x1 (ix5 b n h r j) - topScore x0 x1 b n h r) := by
  rw [← topOf x0 x1 b n h r j]
  rfl

/-- The sum of the exponentials. -/
theorem expSum (b : Fin 8) (n : Fin 32) (h : Fin 8) (r : Fin 64) :
    val_main_v73 (F := Ideal) x0 x1 (ix4 b n h r) = ∑ j : Fin 576, Ideal.exp (val_main_v65 (F := Ideal) x0 x1 (ix5 b n h r j) - topScore x0 x1 b n h r) := by
  rw [val_main_v73_apply]
  refine (congrArg₂ (· + ·) (show _ = (0 : EReal) from ?_) (Finset.sum_congr rfl fun j _ => ?_)).trans (zero_add _)
  · pointwise [val_main_cst_15]
  · exact (congrArg (val_main_v72 (F := Ideal) x0 x1) (show idx_main_v73 (ix4 b n h r) j = ix5 b n h r j from funext fun a => match a with | ⟨0, _⟩ => rfl | ⟨1, _⟩ => rfl | ⟨2, _⟩ => rfl | ⟨3, _⟩ => rfl | ⟨4, _⟩ => rfl)).trans (expo x0 x1 b n h r j)

/-- A softmax weight. -/
theorem weight (b : Fin 8) (n : Fin 32) (h : Fin 8) (r : Fin 64) (j : Fin 576) :
    val_main_v76 (F := Ideal) x0 x1 (ix5 b n h r j) = Ideal.div (Ideal.exp (val_main_v65 (F := Ideal) x0 x1 (ix5 b n h r j) - topScore x0 x1 b n h r))
      (∑ j : Fin 576, Ideal.exp (val_main_v65 (F := Ideal) x0 x1 (ix5 b n h r j) - topScore x0 x1 b n h r)) := by
  rw [← expSum, ← expo]
  unfold val_main_v76 val_main_v75 val_main_v74
  exact congrArg (Ideal.div _) (spread _ b n h r j)

/-- A head's output: the softmax weights over the band's values. -/
theorem output (b : Fin 8) (n : Fin 32) (h : Fin 8) (r : Fin 64) (x : Fin 64) : val_main_v77 (F := Ideal) x0 x1 (ix5 b n h x r) =
    ∑ j : Fin 576, val_main_v33 (F := Ideal) x0 (ix5 b n j h x) * Ideal.div (Ideal.exp (val_main_v65 (F := Ideal) x0 x1 (ix5 b n h r j) - topScore x0 x1 b n h r))
      (∑ j : Fin 576, Ideal.exp (val_main_v65 (F := Ideal) x0 x1 (ix5 b n h r j) - topScore x0 x1 b n h r)) := by
  rw [val_main_v77_apply]
  refine Finset.sum_congr rfl fun j _ => congrArg₂ (· * ·) ?_ ?_
  · exact congrArg (val_main_v33 (F := Ideal) x0) (funext fun a => match a with | ⟨0, _⟩ => rfl | ⟨1, _⟩ => rfl | ⟨2, _⟩ => rfl | ⟨3, _⟩ => rfl | ⟨4, _⟩ => rfl)
  · exact (congrArg (val_main_v76 (F := Ideal) x0 x1) (show ridx_main_v77 (ix5 b n h x r) j = ix5 b n h r j from funext fun a => match a with | ⟨0, _⟩ => rfl | ⟨1, _⟩ => rfl | ⟨2, _⟩ => rfl | ⟨3, _⟩ => rfl | ⟨4, _⟩ => rfl)).trans (weight x0 x1 b n h r j)

/-- The heads' outputs, put side by side. -/
theorem joinedOf (X : Vec Ideal S8x32x8x64x64 .f32) (b : Fin 8) (t : Fin 2048) (d : Fin 512) :
    shapeCast S8x2048x512 (transpose S8x32x64x8x64 [0, 1, 4, 2, 3] X transposes_S8x32x8x64x64_S8x32x64x8x64_0_1_4_2_3) shapeCasts_S8x32x64x8x64_S8x2048x512 (ix3 b t d)
      = X (ix5 b ⟨t.val / 64, by omega⟩ ⟨d.val / 64, by omega⟩ ⟨d.val % 64, by omega⟩ ⟨t.val % 64, by omega⟩) := by
  pointwise

/-- A row of the heads' outputs. -/
def row (b : Fin 8) (t : Fin 2048) (d : Fin 512) : EReal :=
  val_main_v77 (F := Ideal) x0 x1 (ix5 b ⟨t.val / 64, by omega⟩ ⟨d.val / 64, by omega⟩ ⟨d.val % 64, by omega⟩ ⟨t.val % 64, by omega⟩)

/-- The heads' outputs, by row. -/
theorem joined (b : Fin 8) (t : Fin 2048) (d : Fin 512) : val_main_v79 (F := Ideal) x0 x1 (ix3 b t d) = row x0 x1 b t d := by
  unfold val_main_v79 val_main_v78
  exact joinedOf _ b t d

/-- A square, element by element. -/
theorem squareOf (Y : Vec Ideal S8x2048x512 .f32) (i : S8x2048x512.Idx) : mulf (F := Ideal) (φ := .f32) Y Y i = (Y i * Y i : EReal) := by
  pointwise

/-- The sum of a row's squares. -/
theorem squares (b : Fin 8) (t : Fin 2048) : val_main_v81 (F := Ideal) x0 x1 (ix2 b t) = ∑ d : Fin 512, row x0 x1 b t d * row x0 x1 b t d := by
  rw [val_main_v81_apply]
  refine (congrArg₂ (· + ·) (show _ = (0 : EReal) from ?_) (Finset.sum_congr rfl fun d _ => ?_)).trans (zero_add _)
  · pointwise [val_main_cst_16]
  · rw [show idx_main_v81 (ix2 b t) d = ix3 b t d from funext fun a => match a with | ⟨0, _⟩ => rfl | ⟨1, _⟩ => rfl | ⟨2, _⟩ => rfl]
    unfold val_main_v80
    rw [squareOf, joined]

/-- The norm's factor, from the sums of squares. -/
theorem factorOf (S : Vec Ideal S8x2048 .f32) (b : Fin 8) (t : Fin 2048) (d : Fin 512) :
    broadcastInDim S8x2048x512 ![0, 1, 2] bcast_S8x2048x1_S8x2048x512_0_1_2 (Host.rsqrt (F := Ideal) (φ := .f32) (addf (F := Ideal) (φ := .f32) (Host.divf (F := Ideal) (φ := .f32) (broadcastInDim S8x2048x1 ![0, 1] bcast_S8x2048_S8x2048x1_0_1 S) (val_main_v83 (F := Ideal))) (val_main_v85 (F := Ideal)))) (ix3 b t d)
      = Ideal.rsqrt (Ideal.div (S (ix2 b t)) (Ideal.ofBits .f32 0x44000000#32) + Ideal.ofBits .f32 0x358637BD#32) := by
  pointwise [val_main_v83, val_main_cst_17, val_main_v85, val_main_cst_18]

/-- The gain, spread over the rows. -/
theorem gainOf (b : Fin 8) (t : Fin 2048) (d : Fin 512) : val_main_v91 (F := Ideal) x2 (ix3 b t d) = x2 (ix1 d) := by
  pointwise [val_main_v91, val_main_v90]

/-- The norm, of any array of rows. -/
theorem productOf (Y Z G : Vec Ideal S8x2048x512 .f32) (i : S8x2048x512.Idx) :
    truncf (F := Ideal) (φ := .f32) .bf16 (mulf (F := Ideal) (φ := .f32) (mulf (F := Ideal) (φ := .f32) Y Z) G) bitsLt_bf16_f32 i = (Y i * Z i * G i : EReal) := by
  pointwise

/-- The reference's result: the heads' outputs through the root-mean-square norm. -/
theorem outputNormed (b : Fin 8) (t : Fin 2048) (d : Fin 512) : val_main_v93 (F := Ideal) x0 x1 x2 (ix3 b t d) =
    row x0 x1 b t d * Ideal.rsqrt (Ideal.div (∑ x, row x0 x1 b t x * row x0 x1 b t x) (Ideal.ofBits .f32 0x44000000#32) + Ideal.ofBits .f32 0x358637BD#32) * x2 (ix1 d) := by
  unfold val_main_v93 val_main_v92 val_main_v89
  rw [productOf, joined, gainOf]
  unfold val_main_v88 val_main_v87 val_main_v86 val_main_v84 val_main_v82
  rw [factorOf, squares]

end Cert.ReferenceIdeal.AttnNorm

end
-- ==== Proof.AttnMath.lean ====
/- The softmax over a window of which some keys are masked, and the softmax over a band of which some keys are padding. -/
module

public import Idealize.ShloMosaic.Lib.Pointwise
public import Idealize.ShloMosaic.Lib.IdealHost
public import proofs.«01_k».proof.Proof.Reals

@[expose] public section

noncomputable section

open Idealize.ShloMosaic
open Cert.Reals (IsReal)

namespace Cert.AttnMath

/-- The greatest of finitely many numbers, starting from minus infinity. -/
def greatest {n : ℕ} (s : Fin n → EReal) : EReal := Finset.fold max (Ideal.ofBits FTy.f32 4286578688#32) s Finset.univ

/-- The start is minus infinity. -/
theorem negInf : Ideal.ofBits FTy.f32 4286578688#32 = ⊥ := by decide +kernel

/-- No number exceeds the greatest. -/
theorem le_greatest {n : ℕ} (s : Fin n → EReal) (j : Fin n) : s j ≤ greatest s :=
  (Finset.le_fold_max _).mpr (Or.inr ⟨j, Finset.mem_univ j, le_refl _⟩)

/-- A bound of every number bounds the greatest. -/
theorem greatest_le {n : ℕ} (s : Fin n → EReal) (c : EReal) (h : ∀ j, s j ≤ c) : greatest s ≤ c :=
  (Finset.fold_max_le c).mpr ⟨by rw [negInf]; exact bot_le, fun j _ => h j⟩

/-- The greatest of numbers that are real or minus infinity, one of them real, is real. -/
theorem greatest_real {n : ℕ} (s : Fin n → EReal) (h : ∀ j, IsReal (s j) ∨ s j = ⊥) (j₀ : Fin n) (h₀ : IsReal (s j₀)) : IsReal (greatest s) := by
  refine Cert.Reals.of_ne ⟨fun e => h₀.ne_bot (le_bot_iff.mp (e ▸ le_greatest s j₀)), fun e => ?_⟩
  have k : ⊤ ≤ greatest s := e ▸ le_refl _
  rcases (Finset.le_fold_max (b := Ideal.ofBits FTy.f32 4286578688#32) (f := s) (s := Finset.univ) ⊤).mp k with h' | ⟨j, _, hj⟩
  · rw [negInf] at h'
    exact absurd (le_antisymm bot_le h') (by simp)
  · rcases h j with hr | hb
    · exact hr.ne_top (top_le_iff.mp hj)
    · rw [hb] at hj
      exact absurd (top_le_iff.mp hj) (by simp)

/-- Key `j` of the window is a key of the band. -/
def inBand (e : ℕ) (j : ℕ) : Prop := j / 64 ≤ e ∧ e ≤ j / 64 + 8

/-- The window's key that is key `k` of the band. -/
def place (e : ℕ) (he : e ≤ 9) (k : Fin 576) (h : 512 ≤ k.val + 64 * e) : Fin 640 := ⟨k.val + 64 * e - 512, by omega⟩

/-- A sum over the window is the sum over the band, when both are zero outside what they share. -/
theorem sum_window {e : ℕ} (he : e ≤ 9) (f : Fin 640 → EReal) (g : Fin 576 → EReal) (hf : ∀ j, ¬ inBand e j.val → f j = 0)
    (hg : ∀ k : Fin 576, ¬ 512 ≤ k.val + 64 * e → g k = 0) (hfg : ∀ (k : Fin 576) (h : 512 ≤ k.val + 64 * e), g k = f (place e he k h)) :
    ∑ k, g k = ∑ j, f j := by
  refine Finset.sum_bij_ne_zero (fun k _ hk => place e he k (not_not.mp fun n => hk (hg k n))) (fun _ _ _ => Finset.mem_univ _) ?_ ?_ ?_
  · intro a _ ha b _ hb hab
    have h1 := not_not.mp fun n => ha (hg a n)
    have h2 := not_not.mp fun n => hb (hg b n)
    have := congrArg Fin.val hab
    simp only [place] at this
    exact Fin.ext (by omega)
  · intro j _ hj
    have hin : inBand e j.val := not_not.mp fun n => hj (hf j n)
    unfold inBand at hin
    have hk : j.val + 512 - 64 * e < 576 := by omega
    have h5 : 512 ≤ (j.val + 512 - 64 * e) + 64 * e := by omega
    have hp : place e he ⟨j.val + 512 - 64 * e, hk⟩ h5 = j := Fin.ext (by simp only [place]; omega)
    refine ⟨⟨j.val + 512 - 64 * e, hk⟩, Finset.mem_univ _, ?_, hp⟩
    rw [hfg _ h5, hp]
    exact hj
  · intro k _ hk
    exact hfg k _

/-- The greatest of the window is the greatest of the band. -/
theorem greatest_window {e : ℕ} (he : e ≤ 9) (f : Fin 640 → EReal) (g : Fin 576 → EReal) (hf : ∀ j, ¬ inBand e j.val → f j = ⊥)
    (hg : ∀ k : Fin 576, ¬ 512 ≤ k.val + 64 * e → g k = ⊥) (hfg : ∀ (k : Fin 576) (h : 512 ≤ k.val + 64 * e), g k = f (place e he k h)) :
    greatest g = greatest f := by
  refine le_antisymm (greatest_le _ _ fun k => ?_) (greatest_le _ _ fun j => ?_)
  · by_cases h : 512 ≤ k.val + 64 * e
    · rw [hfg k h]; exact le_greatest _ _
    · rw [hg k h]; exact bot_le
  · by_cases hin : inBand e j.val
    · unfold inBand at hin
      have hk : j.val + 512 - 64 * e < 576 := by omega
      have h5 : 512 ≤ (j.val + 512 - 64 * e) + 64 * e := by omega
      have hp : place e he ⟨j.val + 512 - 64 * e, hk⟩ h5 = j := Fin.ext (by simp only [place]; omega)
      have := le_greatest g ⟨j.val + 512 - 64 * e, hk⟩
      rwa [hfg _ h5, hp] at this
    · rw [hf j hin]; exact bot_le

/-- A number that is at least zero and not infinite moves into a sum. -/
theorem mul_sum {ι : Type} (s : Finset ι) (f : ι → EReal) (c : EReal) (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The exponential of a real number less a real number, or of minus infinity less one, is real and not negative. -/
theorem exp_sub {x y : EReal} (hx : IsReal x ∨ x = ⊥) (hy : IsReal y) : ∃ r : ℝ, 0 ≤ r ∧ Ideal.exp (x - y) = (r : EReal) := by
  obtain ⟨b, rfl⟩ := hy
  rcases hx with ⟨a, rfl⟩ | rfl
  · exact ⟨Real.exp (a - b), (Real.exp_pos _).le, by rw [← EReal.coe_sub]; rfl⟩
  · exact ⟨0, le_refl _, by rw [show (⊥ : EReal) - (b : EReal) = ⊥ from rfl]; rfl⟩

/-- The sum of the exponentials is real and positive. -/
theorem exp_sum {n : ℕ} (s : Fin n → EReal) (h : ∀ j, IsReal (s j) ∨ s j = ⊥) (y : EReal) (hy : IsReal y) (j₀ : Fin n) (h₀ : IsReal (s j₀)) :
    ∃ r : ℝ, 0 < r ∧ ∑ j, Ideal.exp (s j - y) = (r : EReal) := by
  choose f hf using fun j => exp_sub (h j) hy
  refine ⟨∑ j, f j, ?_, ?_⟩
  · refine Finset.sum_pos' (fun j _ => (hf j).1) ⟨j₀, Finset.mem_univ _, ?_⟩
    obtain ⟨a, ha⟩ := h₀
    obtain ⟨b, rfl⟩ := hy
    have e := (hf j₀).2
    rw [ha, ← EReal.coe_sub] at e
    have e' : Real.exp (a - b) = f j₀ := EReal.coe_injective e
    rw [← e']
    exact Real.exp_pos _
  · rw [Finset.sum_congr rfl fun j _ => (hf j).2]
    exact (map_sum (⟨⟨Real.toEReal, rfl⟩, EReal.coe_add⟩ : ℝ →+ EReal) f Finset.univ).symm

/-- The band's softmax, its weights divided one by one, is the window's, divided at the end. -/
theorem softmax_window {e : ℕ} (he : e ≤ 9) (s v : Fin 640 → EReal) (t w : Fin 576 → EReal)
    (hs : ∀ j, inBand e j.val → IsReal (s j)) (hs' : ∀ j, ¬ inBand e j.val → s j = ⊥)
    (ht : ∀ k : Fin 576, ¬ 512 ≤ k.val + 64 * e → t k = ⊥)
    (hts : ∀ (k : Fin 576) (h : 512 ≤ k.val + 64 * e), t k = s (place e he k h)) (hwv : ∀ (k : Fin 576) (h : 512 ≤ k.val + 64 * e), w k = v (place e he k h)) :
    ∑ k, w k * Ideal.div (Ideal.exp (t k - max (Ideal.ofBits FTy.f32 4286578688#32) (greatest t))) (∑ k, Ideal.exp (t k - max (Ideal.ofBits FTy.f32 4286578688#32) (greatest t)))
      = Ideal.div (∑ j, Ideal.exp (s j - greatest s) * v j) (∑ j, Ideal.exp (s j - greatest s)) := by
  have hall : ∀ j, IsReal (s j) ∨ s j = ⊥ := fun j => by
    by_cases h : inBand e j.val
    · exact Or.inl (hs j h)
    · exact Or.inr (hs' j h)
  have j₀ : inBand e (⟨64 * e, by omega⟩ : Fin 640).val := by unfold inBand; simp only []; omega
  have hM := greatest_real s hall _ (hs _ j₀)
  rw [negInf, max_eq_right bot_le, greatest_window he s t hs' ht hts]
  generalize greatest s = M at hM
  have hbot : Ideal.exp (⊥ - M) = 0 := by
    obtain ⟨b, rfl⟩ := hM
    rfl
  rw [sum_window he (fun j => Ideal.exp (s j - M)) (fun k => Ideal.exp (t k - M)) (fun j h => by simp only [hs' j h, hbot]) (fun k h => by simp only [ht k h, hbot])
    (fun k h => by simp only [hts k h])]
  obtain ⟨D, hD, eD⟩ := exp_sum s hall M hM _ (hs _ j₀)
  rw [eD, Ideal.div_coe hD.ne', mul_sum _ _ _ (EReal.coe_nonneg.mpr (by positivity)) (EReal.coe_ne_top _)]
  refine sum_window he (fun j => Ideal.exp (s j - M) * v j * ((1 / D : ℝ) : EReal)) _ (fun j h => ?_) (fun k h => ?_) (fun k h => ?_)
  · simp only [hs' j h, hbot, zero_mul]
  · simp only [ht k h, hbot, Ideal.div_coe hD.ne', zero_mul, mul_zero]
  · simp only [hts k h, hwv k h, Ideal.div_coe hD.ne']
    rw [← mul_assoc, mul_comm (v _)]

end Cert.AttnMath

end
-- ==== Proof.AttnEqual.lean ====
/- The attention: the kernel's result and the reference's are one array. -/
module

public import proofs.«01_k».proof.Proof.AttnValue
public import proofs.«01_k».proof.Proof.AttnRef
public import proofs.«01_k».proof.Proof.AttnNorm
public import proofs.«01_k».proof.Proof.AttnMath

@[expose] public section

set_option maxRecDepth 16384

noncomputable section

open Idealize.ShloMosaic Idealize.ShloMosaic.TcCoe Idealize.SL.Sem
open Cert.Reals (IsReal)

namespace Cert.AttnEqual

open Cert.KernelIdeal Cert.KernelIdeal.AttnBlock
open Cert.KernelIdeal.AttnValue (column result resultArray)
open Cert.ReferenceIdeal.AttnRef (band lane rel rel_lt)
open Cert.AttnMath (inBand place)

variable (x0 : Vec Ideal S8x2048x1536 .bf16) (x1 : Vec Ideal S2x257x8 .f32) (x2 : Vec Ideal S512 .f32)

/-- The reference's scale. -/
theorem scale32 : Ideal.ofBits FTy.f32 1040187392#32 = ((1 / 8 : ℝ) : EReal) := by
  refine (show Ideal.ofBits FTy.f32 1040187392#32 = ((_ : ℝ) : EReal) from rfl).trans (congrArg _ ?_)
  simp
  norm_num

/-- The kernel's scale. -/
theorem scale16 : Ideal.ofBits FTy.bf16 15872#16 = ((1 / 8 : ℝ) : EReal) := by
  refine (show Ideal.ofBits FTy.bf16 15872#16 = ((_ : ℝ) : EReal) from rfl).trans (congrArg _ ?_)
  simp
  norm_num

/-- The kernel's scale is the reference's. -/
theorem scale_eq : Ideal.ofBits FTy.bf16 15872#16 = Ideal.ofBits FTy.f32 1040187392#32 := scale16.trans scale32.symm

/-- The scale is a real number that is not negative. -/
theorem scale_real : ∃ r : ℝ, 0 ≤ r ∧ Ideal.ofBits FTy.f32 1040187392#32 = (r : EReal) := ⟨1 / 8, by norm_num, scale32⟩

/-- The kernel's score of query row `r` of chunk `n` and window key `j`, in the head of lane `d`. -/
def windowScore (b : Fin 8) (n : Fin 32) (r : Fin 64) (d : Fin 512) (j : Fin 640) : EReal :=
  score (fun x => x0 (ix3 b ⟨64 * n.val + r.val, by omega⟩ ⟨x.val, by omega⟩)) (fun x => x0 (ix3 b ⟨(n.val - 9) * 64 + j.val, by omega⟩ ⟨512 + x.val, by omega⟩))
    (AttnBias.entry (column x1 0 ⟨(headLane d r).val / 64, by omega⟩) (min n.val 9) ((headLane d r).val % 64) j.val) d

/-- The kernel's bias of a key in the band. -/
theorem entry_in (h : Fin 8) (e : ℕ) (r : Fin 64) (R : ℕ) (hR : R = r.val) (k : Fin 576) (he : e ≤ 9) (h5 : 512 ≤ k.val + 64 * e) (j : ℕ) (hj : j = k.val + 64 * e - 512) :
    AttnBias.entry (column x1 0 h) e R j = x1 (ix3 (0 : Fin 2) ⟨rel r.val k.val, rel_lt _ _⟩ h) := by
  subst hR hj
  have hr : AttnBias.relRow e r.val (k.val + 64 * e - 512) = rel r.val k.val := by
    unfold AttnBias.relRow rel
    omega
  unfold AttnBias.entry column
  rw [if_pos (by omega)]
  simp only [hr]
  rw [dif_pos (rel_lt _ _)]

/-- The kernel's bias of a key outside the band is minus infinity. -/
theorem entry_out (h : Fin 8) (e R j : ℕ) (hj : ¬ inBand e j) : AttnBias.entry (column x1 0 h) e R j = ⊥ := by
  unfold AttnBias.entry
  exact if_neg hj

/-- The queries, keys and biases are real numbers. -/
structure RealArgs : Prop where
  /-- The queries and the keys. -/
  keys : ∀ (b : Fin 8) (t : Fin 2048) (x : Fin 1536), x.val < 1024 → IsReal (x0 (ix3 b t x))
  /-- The biases. -/
  bias : ∀ (j : Fin 257) (h : Fin 8), IsReal (x1 (ix3 (0 : Fin 2) j h))

/-- The product of a query row and a key is real. -/
theorem product_real (hr : RealArgs x0 x1) (b : Fin 8) (t u : Fin 2048) (d : Fin 512) :
    IsReal (∑ x : Fin 64, x0 (ix3 b t ⟨(headLane d x).val, by omega⟩) * Ideal.ofBits FTy.bf16 15872#16 * x0 (ix3 b u ⟨512 + (headLane d x).val, by omega⟩)) := by
  obtain ⟨c, _, hc⟩ := scale_real
  refine Cert.Reals.isReal_sum _ _ fun x _ => ((hr.keys _ _ _ ?_).mul ⟨c, scale_eq.trans hc⟩).mul (hr.keys _ _ _ ?_)
  · have := (headLane d x).isLt; simp only []; omega
  · have := (headLane d x).isLt; simp only []; omega

/-- A head's lane of a row of queries, and of the band. -/
theorem headLane_lane (d : Fin 512) (x : Fin 64) : headLane d x = lane ⟨d.val / 64, by omega⟩ x := rfl

/-- A key or value of the window, as the band's. -/
theorem band_place (o : Fin 1025) (b : Fin 8) (n : Fin 32) (k : Fin 576) (d : Fin 512) (h5 : 512 ≤ k.val + 64 * min n.val 9) :
    band x0 o b n k d = x0 (ix3 b ⟨(n.val - 9) * 64 + (k.val + 64 * min n.val 9 - 512), by omega⟩ ⟨o.val + d.val, by omega⟩) := by
  unfold band
  rw [dif_pos (by omega)]
  exact congrArg (fun t => x0 (ix3 b t _)) (Fin.ext (by simp only []; omega))

/-- The score of a key in the band is the reference's. -/
theorem score_in (b : Fin 8) (n : Fin 32) (r : Fin 64) (d : Fin 512) (k : Fin 576) (h5 : 512 ≤ k.val + 64 * min n.val 9) :
    Cert.ReferenceIdeal.Read.val_main_v65 (F := Ideal) x0 x1 (ix5 b n ⟨d.val / 64, by omega⟩ r k) = windowScore x0 x1 b n r d (place (min n.val 9) (by omega) k h5) := by
  obtain ⟨c, h0, hc⟩ := scale_real
  rw [Cert.ReferenceIdeal.AttnRef.score, if_pos (by omega)]
  unfold windowScore score
  rw [scale_eq, hc, Cert.AttnMath.mul_sum _ _ _ (EReal.coe_nonneg.mpr h0) (EReal.coe_ne_top _)]
  refine congrArg₂ (· + ·) (Finset.sum_congr rfl fun x _ => ?_)
    (((entry_in x1 _ (min n.val 9) r _ (by unfold headLane; simp only []; omega) k (by omega) h5 _ rfl).trans ?_).symm)
  · rw [band_place x0 _ b n k _ h5, mul_assoc, mul_comm _ (c : EReal), ← mul_assoc]
    rfl
  · exact congrArg (fun h => x1 (ix3 (0 : Fin 2) _ h)) (Fin.ext (by unfold headLane; simp only []; omega))

/-- A head's output is the reference's. -/
theorem attend_eq (hr : RealArgs x0 x1) (b : Fin 8) (n : Fin 32) (r : Fin 64) (d : Fin 512) :
    attend (fun r x => x0 (ix3 b ⟨64 * n.val + r.val, by omega⟩ ⟨x.val, by omega⟩)) (fun j x => x0 (ix3 b ⟨(n.val - 9) * 64 + j.val, by omega⟩ ⟨512 + x.val, by omega⟩))
      (fun j x => x0 (ix3 b ⟨(n.val - 9) * 64 + j.val, by omega⟩ ⟨1024 + x.val, by omega⟩))
      (fun R j => AttnBias.entry (column x1 0 ⟨R.val / 64, by omega⟩) (min n.val 9) (R.val % 64) j.val) r d
    = Cert.ReferenceIdeal.Read.val_main_v77 (F := Ideal) x0 x1 (ix5 b n ⟨d.val / 64, by omega⟩ ⟨d.val % 64, by omega⟩ r) := by
  rw [Cert.ReferenceIdeal.AttnNorm.output]
  refine (Cert.AttnMath.softmax_window (e := min n.val 9) (by omega) (windowScore x0 x1 b n r d) (fun j => x0 (ix3 b ⟨(n.val - 9) * 64 + j.val, by omega⟩ ⟨1024 + d.val, by omega⟩))
    (fun k => Cert.ReferenceIdeal.Read.val_main_v65 (F := Ideal) x0 x1 (ix5 b n ⟨d.val / 64, by omega⟩ r k))
    (fun k => Cert.ReferenceIdeal.Read.val_main_v33 (F := Ideal) x0 (ix5 b n k ⟨d.val / 64, by omega⟩ ⟨d.val % 64, by omega⟩)) ?_ ?_ ?_ ?_ ?_).symm
  · intro j hj
    have hk : j.val + 512 - 64 * min n.val 9 < 576 := by unfold inBand at hj; omega
    unfold windowScore score
    refine (product_real x0 x1 hr b _ _ d).add ?_
    rw [entry_in x1 _ (min n.val 9) r _ (by unfold headLane; simp only []; omega) ⟨_, hk⟩ (by omega) (by unfold inBand at hj; simp only []; omega) _ (by unfold inBand at hj; simp only []; omega)]
    exact hr.bias _ _
  · intro j hj
    unfold windowScore score
    rw [entry_out x1 _ _ _ _ hj, EReal.add_bot]
  · intro k hk
    rw [Cert.ReferenceIdeal.AttnRef.score, if_neg (by omega)]
  · intro k h5
    exact score_in x0 x1 b n r d k h5
  · intro k h5
    simp only [Cert.ReferenceIdeal.AttnRef.valueBand]
    rw [band_place x0 _ b n k _ h5]
    exact congrArg (fun u => x0 (ix3 b _ u)) (Fin.ext (by unfold lane; simp only []; show 1024 + _ = 1024 + _; omega))

/-- The kernel's array is the reference's. -/
theorem result_eq (hr : RealArgs x0 x1) : resultArray x0 x1 x2 = Cert.ReferenceIdeal.Read.val_main_v93 (F := Ideal) x0 x1 x2 := by
  funext y
  idx_vars y
  rw [Cert.ReferenceIdeal.AttnNorm.outputNormed]
  show result x0 x1 x2 y0 ⟨y1.val / 64, by omega⟩ ⟨y1.val % 64, by omega⟩ y2 = _
  unfold result Cert.ReferenceIdeal.AttnNorm.row
  exact congrArg (fun o => normed o (fun x => x2 (ix1 x)) y2) (funext fun d => attend_eq x0 x1 hr y0 ⟨y1.val / 64, by omega⟩ ⟨y1.val % 64, by omega⟩ d)

end Cert.AttnEqual

end
-- ==== Proof.AttnRun.lean ====
/- The attention: its two calls run one after the other, and what the result array then holds. -/
module

public import proofs.«01_k».proof.Proof.Gen.KernelIdeal.Frame

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

namespace Cert.KernelIdeal.AttnRun

open Cert.KernelIdeal Cert.KernelIdeal.Gen

variable (m : (ℓ : Loc nD τ sig) → Buf (Elt Ideal) ℓ) (ρ : Dev nD → PrngReg)

set_option backward.isDefEq.respectTransparency.types false in
/-- Both calls run to the end; the result array holds what the second call wrote and the arguments are kept. -/
theorem run : θ_run defs (onTc (τ := τ) (main (F := Ideal))) ⟨m, fun _ => 0, ρ⟩ (fun r => ∀ c : Dev nD,
      r.2.mem ((c : Thread nD τ).loc main_v4) = (dat1 (V4 m ρ) c).arrAt 5 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact H
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hg, -⟩, -⟩
      imodintro
      isplitl [Hb]; · iexact Hb
      isplitl [Hg]; · iexists _; iexact Hg
      iexists ∅; iexact Ho)
    (QY := fun c s => ∀ b ∈ Pipeline.ucRefs τ sig, s.mem (((c : Thread nD τ)).1, b) = W5 m ρ c b)
    (hfin := fun c s' => by
      iintro ⟨⟨Hb, -⟩, Hs⟩
      unfold StableHlo.held
      imodintro
      iapply (pointsTo_read_all (Pipeline.ucRefs τ sig) (fun b => (((c : Thread nD τ)).1, b)) (W5 m ρ c) s')
      isplitl [Hb] <;> iassumption)
    (hQ := fun s h _ c =>
      ⟨(h c _ (mem_uc main_v4 (by decide))).trans (W5_arr m ρ c 5),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.AttnRun

end
-- ==== Proof.AttnClaims.lean ====
/- The value claim of the attention. -/
module

public import proofs.«01_k».proof.Defs
public import proofs.«01_k».proof.Proof.AttnEqual
public import proofs.«01_k».proof.Proof.AttnRun
public import proofs.«01_k».proof.Proof.Finite
public import proofs.«01_k».proof.Proof.Gen.ReferenceIdeal.Run
public import proofs.«01_k».proof.Proof.Gen.Pre_finite_scores

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts Cert.Pre_finite_scores.Gen.facts

/-- Two bits whose conjunction is true are both true. -/
theorem both_bits : ∀ a b : BitVec 1, IntOp.andi a b = 1#1 → a = 1#1 ∧ b = 1#1 := by
  decide

/-- The precondition says that the queries, the keys and the first layer's biases are real. -/
theorem realScores_of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    Cert.AttnEqual.RealArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  have e := congrFun (h c) ix0
  dsimp only [Cert.Pre_finite_scores.fn] at e
  haveI : Subsingleton Cert.Pre_finite_scores.S_.Idx := ⟨fun a b => funext fun i => i.elim0⟩
  obtain ⟨e0, e1⟩ := both_bits _ _ e
  refine ⟨fun b t x hx => ?_, fun j k => ?_⟩
  · refine Cert.Reals.of_ne (Cert.Finite.of_test _ (Eq.trans ?_ (Host.reduce_andi_all _ _ _ _ _ e0 (ix3 b t ⟨x.val, hx⟩))))
    pointwise
  · refine Cert.Reals.of_ne (Cert.Finite.of_test _ (Eq.trans ?_ (Host.reduce_andi_all _ _ _ _ _ e1 (ix2 j k))))
    pointwise

/-- The attention's kernel and reference end with equal results. -/
theorem algebraic_Attn : Cert.algebraic_KernelIdeal_ReferenceIdeal_pre_finite_scores := by
  intro m ρ m' ρ' hpre hagree
  refine ⟨_, Cert.KernelIdeal.AttnRun.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2⟩ := hagree c
  have hr := realScores_of_pre m hpre c
  refine Eq.trans ?_ ((Cert.KernelIdeal.AttnValue.final m ρ c hr.bias).trans (Cert.AttnEqual.result_eq _ _ _ hr)).symm
  rw [← e0, ← e1, ← e2]
  exact Cert.ReferenceIdeal.Read.val_main_v93_eq _ _

end Cert.Proof

end
-- ==== Proof.MixValue.lean ====
/- The output projection without a router: what the kernel leaves in its two result arrays, as the reference's composed terms. -/
module

public import proofs.«01_k».proof.Proof.Gen.KernelMixIdeal.Value
public import proofs.«01_k».proof.Proof.Gen.ReferenceMixIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelMixIdeal.MixValue

open Cert.KernelMixIdeal Cert.KernelMixIdeal.Gen Cert.Reals

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ t.val < 32 :=
  (by decide +kernel : ∀ t : Fin grid0.N, _)

/-- An element of the new residual row: the old one plus the two halves' projection. -/
def resid (y0 y1 : Fin 512 → EReal) (x : EReal) (w : Fin 1024 → EReal) : EReal :=
  x + (∑ k : Fin 512, y0 k * w ⟨k.val, by omega⟩ + ∑ k : Fin 512, y1 k * w ⟨512 + k.val, by omega⟩)

/-- The body's residual row. -/
theorem payX_apply (x0 x1 : Vec Ideal S512x512 .bf16) (x2 : Vec Ideal S512x1024 .f32) (x3 : Vec Ideal S1024x1024 .bf16) (r : Fin 512) (d : Fin 1024) :
    k0_pay1 x0 x1 x2 x3 (ix2 r d) = resid (fun k => x0 (ix2 r k)) (fun k => x1 (ix2 r k)) (x2 (ix2 r d)) (fun k => x3 (ix2 k d)) := by
  pointwise [k0_pay1]
  rfl

/-- The body's normalized row. -/
theorem payH_apply (x0 x1 : Vec Ideal S512x512 .bf16) (x2 : Vec Ideal S512x1024 .f32) (x3 : Vec Ideal S1024x1024 .bf16) (x4 : Vec Ideal S1x1024 .f32) (r : Fin 512) (d : Fin 1024) :
    k0_pay2 x0 x1 x2 x3 x4 (ix2 r d)
      = normed (fun d => resid (fun k => x0 (ix2 r k)) (fun k => x1 (ix2 r k)) (x2 (ix2 r d)) (fun k => x3 (ix2 k d))) (fun d => x4 (ix2 0 d)) d := by
  pointwise [k0_pay2]
  simp only [payX_apply]
  rfl

/-- What the body leaves in its first output block. -/
theorem blockX_apply (x0 x1 : Vec Ideal S512x512 .bf16) (x2 : Vec Ideal S512x1024 .f32) (x3 : Vec Ideal S1024x1024 .bf16) (x4 : Vec Ideal S1x1024 .f32) (r : Fin 512) (d : Fin 1024) :
    out0_5 x0 x1 x2 x3 x4 (ix2 r d) = resid (fun k => x0 (ix2 r k)) (fun k => x1 (ix2 r k)) (x2 (ix2 r d)) (fun k => x3 (ix2 k d)) := by
  frame_out
  exact payX_apply _ _ _ _ _ _

/-- What the body leaves in its second output block. -/
theorem blockH_apply (x0 x1 : Vec Ideal S512x512 .bf16) (x2 : Vec Ideal S512x1024 .f32) (x3 : Vec Ideal S1024x1024 .bf16) (x4 : Vec Ideal S1x1024 .f32) (r : Fin 512) (d : Fin 1024) :
    out0_6 x0 x1 x2 x3 x4 (ix2 r d)
      = normed (fun d => resid (fun k => x0 (ix2 r k)) (fun k => x1 (ix2 r k)) (x2 (ix2 r d)) (fun k => x3 (ix2 k d))) (fun d => x4 (ix2 0 d)) d := by
  frame_out
  exact payH_apply _ _ _ _ _ _ _

/-- The residual row of a token. -/
def tokenResid (x0 x1 : Vec Ideal S16384x512 .bf16) (x2 : Vec Ideal S16384x1024 .f32) (x3 : Vec Ideal S2x1024x1024 .f32) (n : Fin 16384) (d : Fin 1024) : EReal :=
  resid (fun k => x0 (ix2 n k)) (fun k => x1 (ix2 n k)) (x2 (ix2 n d)) (fun k => x3 (ix3 0 k d))

/-- The normalized row of a token. -/
def tokenNormed (x0 x1 : Vec Ideal S16384x512 .bf16) (x2 : Vec Ideal S16384x1024 .f32) (x3 : Vec Ideal S2x1024x1024 .f32) (x4 : Vec Ideal S2x1024 .f32) (n : Fin 16384) (d : Fin 1024) : EReal :=
  normed (tokenResid x0 x1 x2 x3 n) (fun d => x4 (ix2 0 d)) d

/-- The reference's first result. -/
theorem ref6_apply (x0 x1 : Vec Ideal S16384x512 .bf16) (x2 : Vec Ideal S16384x1024 .f32) (x3 : Vec Ideal S2x1024x1024 .f32) (n : Fin 16384) (d : Fin 1024) :
    Cert.ReferenceMixIdeal.Read.val_main_v6 (F := Ideal) x0 x1 x2 x3 (ix2 n d) = tokenResid x0 x1 x2 x3 n d := by
  rw [← Cert.ReferenceMixIdeal.Read.val_main_v6_eq]
  pointwise
  rfl

/-- The reference's normalized row. -/
theorem ref21_apply (x0 x1 : Vec Ideal S16384x512 .bf16) (x2 : Vec Ideal S16384x1024 .f32) (x3 : Vec Ideal S2x1024x1024 .f32) (x4 : Vec Ideal S2x1024 .f32) (n : Fin 16384) (d : Fin 1024) :
    Cert.ReferenceMixIdeal.Read.val_main_v21 (F := Ideal) x0 x1 x2 x3 x4 (ix2 n d) = tokenNormed x0 x1 x2 x3 x4 n d := by
  open Cert.ReferenceMixIdeal.Read in
  pointwise [val_main_v21, val_main_v20, val_main_v19, val_main_v18, val_main_v17, val_main_v16, val_main_v15, val_main_v14, val_main_v13, val_main_v12, val_main_v11, val_main_v10, val_main_v9,
    val_main_v8, val_main_v7, val_main_cst, val_main_cst_0, val_main_cst_1]
  simp only [ref6_apply]
  rfl

/-- The reference's second result. -/
theorem ref22_apply (x0 x1 : Vec Ideal S16384x512 .bf16) (x2 : Vec Ideal S16384x1024 .f32) (x3 : Vec Ideal S2x1024x1024 .f32) (x4 : Vec Ideal S2x1024 .f32) (n : Fin 16384) (d : Fin 1024) :
    Cert.ReferenceMixIdeal.Read.val_main_v22 (F := Ideal) x0 x1 x2 x3 x4 (ix2 n d) = tokenNormed x0 x1 x2 x3 x4 n d := by
  pointwise [Cert.ReferenceMixIdeal.Read.val_main_v22]
  exact ref21_apply _ _ _ _ _ _ _

/-- The first half of the mixed rows, read from the argument array. -/
theorem half0 (c : Dev nD) (t : Fin cfg0.N) (r : Fin 512) (k : Fin 512) :
    iblk m c 0 t (ix2 r k) = m ((c : Thread nD τ).loc main_arg0) (ix2 (⟨t.val * 512 + r.val, by have := idx t; omega⟩ : Fin 16384) k) := by
  blk_simp [iblk]
  blk_ext [iblk, V, idx t]

/-- The second half of the mixed rows, read from the argument array. -/
theorem half1 (c : Dev nD) (t : Fin cfg0.N) (r : Fin 512) (k : Fin 512) :
    iblk m c 1 t (ix2 r k) = m ((c : Thread nD τ).loc main_arg1) (ix2 (⟨t.val * 512 + r.val, by have := idx t; omega⟩ : Fin 16384) k) := by
  blk_simp [iblk]
  blk_ext [iblk, V, idx t]

/-- The residual rows, read from the argument array. -/
theorem stream (c : Dev nD) (t : Fin cfg0.N) (r : Fin 512) (k : Fin 1024) :
    iblk m c 2 t (ix2 r k) = m ((c : Thread nD τ).loc main_arg2) (ix2 (⟨t.val * 512 + r.val, by have := idx t; omega⟩ : Fin 16384) k) := by
  blk_simp [iblk]
  blk_ext [iblk, V, idx t]

/-- The weights as the host prepares them. -/
theorem entryW (c : Dev nD) : V m c main_v2 = truncf (F := Ideal) (φ := .f32) FTy.bf16 (shapeCast S1024x1024 (extractStridedSlice S1x1024x1024 ![0, 0, 0] (m ((c : Thread nD τ).loc main_arg3)) slices_S2x1024x1024_S1x1024x1024_0_0_0) shapeCasts_S1x1024x1024_S1024x1024) bitsLt_bf16_f32 := by
  unfold V
  simp only [List.flatten_cons, List.flatten_nil, List.cons_append, List.nil_append, List.append_nil, StableHlo.after_cons, StableHlo.after_nil]
  after_results_simp
  rfl

/-- The gain as the host prepares it. -/
theorem entryG (c : Dev nD) : V m c main_v5 = shapeCast S1x1024 (shapeCast S1024 (extractStridedSlice S1x1024 ![0, 0] (m ((c : Thread nD τ).loc main_arg4)) slices_S2x1024_S1x1024_0_0) shapeCasts_S1x1024_S1024) shapeCasts_S1024_S1x1024 := by
  unfold V
  simp only [List.flatten_cons, List.flatten_nil, List.cons_append, List.nil_append, List.append_nil, StableHlo.after_cons, StableHlo.after_nil]
  after_results_simp
  rfl

/-- The weights, read from the argument array. -/
theorem weights (c : Dev nD) (t : Fin cfg0.N) (k d : Fin 1024) :
    iblk m c 3 t (ix2 k d) = m ((c : Thread nD τ).loc main_arg3) (ix3 (0 : Fin 2) k d) := by
  blk_simp [iblk]
  refine (congrFun (entryW m c) _).trans ?_
  pointwise
  blk_ext [idx t]

/-- The gain, read from the argument array. -/
theorem gain (c : Dev nD) (t : Fin cfg0.N) (k : Fin 1024) :
    iblk m c 4 t (ix2 (0 : Fin 1) k) = m ((c : Thread nD τ).loc main_arg4) (ix2 (0 : Fin 2) k) := by
  blk_simp [iblk]
  refine (congrFun (entryG m c) _).trans ?_
  pointwise
  blk_ext [idx t]

/-- The token row a grid point's block row is. -/
def row (t : Fin cfg0.N) (r : Fin 512) : Fin 16384 := ⟨t.val * 512 + r.val, by have := idx t; omega⟩

/-- The first result array. -/
theorem finalX (c : Dev nD) : (dats m 0 c).arrAt 5 cfg0.N = Cert.ReferenceMixIdeal.Read.val_main_v6 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  rw [blockX_apply]
  have h := idx t
  have e : ((cfg0.win 5).blk t).view.emb (ix2 y0 y1) = ix2 (row t y0) y1 := by unfold row; blk_ext [iblk, V, idx t]
  rw [e]
  refine Eq.trans ?_ (ref6_apply _ _ _ _ _ _).symm
  simp only [half0, half1, stream, weights]
  rfl

/-- A block's normalized row is the token's. -/
theorem normed_row (c : Dev nD) (t : Fin cfg0.N) (r : Fin 512) (d : Fin 1024) :
    k0_pay2 (iblk m c 0 t) (iblk m c 1 t) (iblk m c 2 t) (iblk m c 3 t) (iblk m c 4 t) (ix2 r d) = tokenNormed (m ((c : Thread nD τ).loc main_arg0)) (m ((c : Thread nD τ).loc main_arg1)) (m ((c : Thread nD τ).loc main_arg2)) (m ((c : Thread nD τ).loc main_arg3)) (m ((c : Thread nD τ).loc main_arg4)) (row t r) d := by
  refine (payH_apply _ _ _ _ _ _ _).trans ?_
  simp only [half0, half1, stream, weights, gain]
  rfl

/-- The second result array. -/
theorem finalH (c : Dev nD) : (dats m 0 c).arrAt 6 cfg0.N = Cert.ReferenceMixIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  idx_vars y
  rw [blockH_apply, ← payH_apply]
  have h := idx t
  have e : ((cfg0.win 6).blk t).view.emb (ix2 y0 y1) = ix2 (row t y0) y1 := by unfold row; blk_ext [iblk, V, idx t]
  rw [e]
  exact (normed_row m c t y0 y1).trans (ref22_apply _ _ _ _ _ _ _).symm

end Cert.KernelMixIdeal.MixValue

end
-- ==== Proof.MixClaims.lean ====
/- The value claim of the output projection without a router, and its reference's frame. -/
module

public import proofs.«01_k».proof.Defs
public import proofs.«01_k».proof.Proof.MixValue
public import proofs.«01_k».proof.Proof.Gen.ReferenceMixIdeal.Run

@[expose] public section

noncomputable section

namespace Cert.Proof

open Idealize.ShloMosaic Idealize.ShloMosaic.TcCoe Idealize.SL.Sem

attribute [local instance] Cert.KernelMixIdeal.Gen.facts Cert.ReferenceMixIdeal.Gen.facts

/-- The reference of the output projection without a router runs, leaves its arguments and declares no semaphore. -/
theorem frame_ReferenceMix : Cert.quiescent_ReferenceMixIdeal := fun m ρ _ =>
  (θ_run Cert.ReferenceMixIdeal.defs _ _).mono (fun r h => ⟨fun c => (h c).2.2, sem_eq_zero_of_no_sems (by decide) r.2⟩)
    (Cert.ReferenceMixIdeal.Value.run (F := Ideal) m ρ)

/-- The kernel and the reference of the output projection without a router end with equal results. -/
theorem algebraic_Mix : Cert.algebraic_KernelMixIdeal_ReferenceMixIdeal := by
  intro m ρ m' ρ' hpre hagree
  refine ⟨_, _, Cert.KernelMixIdeal.Value.run_blocks (F := Ideal) m ρ, ?_⟩
  refine (θ_run Cert.ReferenceMixIdeal.defs _ _).mono (fun _ h c => ⟨(h c).1.trans ?_, (h c).2.1.trans ?_, (h c).2.2⟩)
    (Cert.ReferenceMixIdeal.Value.run (F := Ideal) m' ρ')
  all_goals obtain ⟨e0, e1, e2, e3, e4⟩ := hagree c
  · rw [e0, e1, e2, e3]
    exact (Cert.ReferenceMixIdeal.Read.val_main_v6_eq _ _ _ _).trans (Cert.KernelMixIdeal.MixValue.finalX m c).symm
  · rw [e0, e1, e2, e3, e4]
    exact (Cert.ReferenceMixIdeal.Read.val_main_v22_eq _ _ _ _ _).trans (Cert.KernelMixIdeal.MixValue.finalH m c).symm

end Cert.Proof

end
-- ==== Proof.lean ====
/- The certificate of `proofs/01_k`: the frames, the identities of the idealized programs, and the value of each kernel
   beside its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelMoe
public import proofs.«01_k».proof.Proof.Gen.KernelMoe.Skeleton
public import proofs.«01_k».proof.Proof.Gen.KernelMoe.Launch
public import proofs.«01_k».proof.Proof.Gen.KernelMoe.Points
public import proofs.«01_k».proof.Proof.Gen.KernelMoe.Frame
public import proofs.«01_k».proof.Proof.Gen.KernelMoeIdeal
public import proofs.«01_k».proof.Proof.Gen.KernelMoeIdeal.Skeleton
public import proofs.«01_k».proof.Proof.Gen.KernelMoeIdeal.Launch
public import proofs.«01_k».proof.Proof.Gen.KernelMoeIdeal.Points
public import proofs.«01_k».proof.Proof.Gen.KernelMoeIdeal.Frame
public import proofs.«01_k».proof.Proof.Gen.KernelMoeIdeal.Value
public import proofs.«01_k».proof.Proof.Gen.ReferenceMoeIdeal
public import proofs.«01_k».proof.Proof.Gen.ReferenceMoeIdeal.Run
public import proofs.«01_k».proof.Proof.Gen.ReferenceMoeIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelRwkv
public import proofs.«01_k».proof.Proof.Gen.KernelRwkv.Skeleton
public import proofs.«01_k».proof.Proof.Gen.KernelRwkv.Launch
public import proofs.«01_k».proof.Proof.Gen.KernelRwkv.Points
public import proofs.«01_k».proof.Proof.Gen.KernelRwkv.Frame
public import proofs.«01_k».proof.Proof.Gen.KernelRwkvIdeal
public import proofs.«01_k».proof.Proof.Gen.KernelRwkvIdeal.Skeleton
public import proofs.«01_k».proof.Proof.Gen.KernelRwkvIdeal.Launch
public import proofs.«01_k».proof.Proof.Gen.KernelRwkvIdeal.Points
public import proofs.«01_k».proof.Proof.Gen.KernelRwkvIdeal.Frame
public import proofs.«01_k».proof.Proof.Gen.KernelRwkvIdeal.Value
public import proofs.«01_k».proof.Proof.Gen.Pre_finite_scores
public import proofs.«01_k».proof.Proof.Gen.Pre_finite_logits
public import proofs.«01_k».proof.Proof.Gen.Pre_finite_router
public import proofs.«01_k».proof.Proof.FfnInClaims
public import proofs.«01_k».proof.Proof.RefFrames
public import proofs.«01_k».proof.Proof.MoeClaims
public import proofs.«01_k».proof.Proof.OutClaims
public import proofs.«01_k».proof.Proof.AttnClaims
public import proofs.«01_k».proof.Proof.MixClaims

@[expose] public section

noncomputable section

namespace Cert.Proof

open Idealize.ShloMosaic Idealize.SL.Sem

/-- Every claim of the certificate, each by the theorem of its part. -/
theorem claim : Cert.Claim := ⟨Cert.Kernel.Gen.facts, Cert.KernelIdeal.Gen.facts, Cert.ReferenceIdeal.Gen.facts, Cert.KernelMoe.Gen.facts, Cert.KernelMoeIdeal.Gen.facts, Cert.ReferenceMoeIdeal.Gen.facts, Cert.KernelFfn.Gen.facts, Cert.KernelFfnIdeal.Gen.facts, Cert.ReferenceFfnIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelMix.Gen.facts, Cert.KernelMixIdeal.Gen.facts, Cert.ReferenceMixIdeal.Gen.facts, Cert.KernelRwkv.Gen.facts, Cert.KernelRwkvIdeal.Gen.facts, Cert.Pre_finite_scores.Gen.facts, Cert.Pre_finite_logits.Gen.facts, Cert.Pre_finite_router.Gen.facts,
  fun m ρ _ => Cert.Kernel.Gen.frame m ρ,
  fun m ρ _ => Cert.KernelIdeal.Gen.frame m ρ,
  fun m ρ _ => Cert.KernelIdeal.Gen.frame m ρ,
  frame_ReferenceAttn,
  fun m ρ _ => frame_ReferenceAttn m ρ trivial,
  fun m ρ _ => Cert.KernelMoe.Gen.frame m ρ,
  fun m ρ _ => Cert.KernelMoeIdeal.Gen.frame m ρ,
  fun m ρ _ => Cert.KernelMoeIdeal.Gen.frame m ρ,
  frame_ReferenceMoe,
  fun m ρ _ => frame_ReferenceMoe m ρ trivial,
  fun m ρ _ => Cert.KernelFfn.Gen.frame m ρ,
  fun m ρ _ => Cert.KernelFfnIdeal.Gen.frame m ρ,
  frame_ReferenceFfn,
  fun m ρ _ => Cert.KernelIn.Gen.frame m ρ,
  fun m ρ _ => Cert.KernelInIdeal.Gen.frame m ρ,
  frame_ReferenceIn,
  fun m ρ _ => Cert.KernelOut.Gen.frame m ρ,
  fun m ρ _ => Cert.KernelOutIdeal.Gen.frame m ρ,
  fun m ρ _ => Cert.KernelOutIdeal.Gen.frame m ρ,
  frame_ReferenceOut,
  fun m ρ _ => frame_ReferenceOut m ρ trivial,
  fun m ρ _ => Cert.KernelMix.Gen.frame m ρ,
  fun m ρ _ => Cert.KernelMixIdeal.Gen.frame m ρ,
  frame_ReferenceMix,
  fun m ρ _ => Cert.KernelRwkv.Gen.frame m ρ,
  fun m ρ _ => Cert.KernelRwkvIdeal.Gen.frame m ρ,
  IdealRules.named_const.statement Cert.KernelIdeal.κ "mask" .f32 0xF149F2CA#32 ⊥ rfl,
  algebraic_Attn,
  trivial,
  algebraic_Moe,
  trivial,
  algebraic_Ffn,
  trivial,
  algebraic_In,
  trivial,
  algebraic_Out,
  trivial,
  algebraic_Mix,
  trivial⟩

end Cert.Proof

end
